-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "inv_sqrt_hd" .f32 0x3DD105EC#32 (((Real.sqrt 96)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x768 : Shape := ⟨2, ![1, 768]⟩
abbrev S1000x768 : Shape := ⟨2, ![1000, 768]⟩
abbrev S768x768 : Shape := ⟨2, ![768, 768]⟩
abbrev S768 : Shape := ⟨1, ![768]⟩
abbrev S768x1536 : Shape := ⟨2, ![768, 1536]⟩
abbrev S1536 : Shape := ⟨1, ![1536]⟩
abbrev S1536x768 : Shape := ⟨2, ![1536, 768]⟩
abbrev S768x50 : Shape := ⟨2, ![768, 50]⟩
abbrev S50 : Shape := ⟨1, ![50]⟩
abbrev S50x768x768 : Shape := ⟨3, ![50, 768, 768]⟩
abbrev S50x768 : Shape := ⟨2, ![50, 768]⟩
abbrev S3072x1536 : Shape := ⟨2, ![3072, 1536]⟩
abbrev S_ : Shape := ⟨0, ![]⟩

class Facts : Prop where
  bcast_S_S1x768 : S_.BroadcastsInDim S1x768 (![] : Fin 0 → Fin S1x768.rank)
  bcast_S_S1000x768 : S_.BroadcastsInDim S1000x768 (![] : Fin 0 → Fin S1000x768.rank)
  bcast_S_S768x768 : S_.BroadcastsInDim S768x768 (![] : Fin 0 → Fin S768x768.rank)
  bcast_S_S768 : S_.BroadcastsInDim S768 (![] : Fin 0 → Fin S768.rank)

variable [Facts]

def fn_part1 {F : FTy → Type} [FloatOps F] (main_arg6 : FVec F S768x768 .f32) (main_v2 : IVec S1x768 1) (main_v5 : IVec S1000x768 1) (main_v8 : IVec S768x768 1) (main_v11 : IVec S768 1) (main_v14 : IVec S768x768 1) (main_v17 : IVec S768 1) : IVec S1x768 1 × IVec S1000x768 1 × IVec S768x768 1 × IVec S768 1 × IVec S768x768 1 × IVec S768 1 × IVec S768x768 1 :=
  let main_v18 : FVec F S768x768 .f32 := Host.absf main_arg6
  let main_cst_5 : FVec F S_ .f32 := constant S_ .f32 0x7F800000#32
  let main_v19 : FVec F S768x768 .f32 := broadcastInDim S768x768 ![] bcast_S_S768x768 main_cst_5
  let main_v20 : IVec S768x768 1 := cmpf .olt main_v18 main_v19
  (main_v2, main_v5, main_v8, main_v11, main_v14, main_v17, main_v20)

def fn {F : FTy → Type} [FloatOps F] (main_arg0 : FVec F S1x768 .f32) (main_arg1 : FVec F S1000x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S768x768 .f32) (main_arg9 : FVec F S768 .f32) (main_arg10 : FVec F S768x1536 .f32) (main_arg11 : FVec F S1536 .f32) (main_arg12 : FVec F S1536 .f32) (main_arg13 : FVec F S1536 .f32) (main_arg14 : FVec F S1536x768 .f32) (main_arg15 : FVec F S768 .f32) (main_arg16 : FVec F S768x50 .f32) (main_arg17 : FVec F S50 .f32) (main_arg18 : FVec F S50x768x768 .f32) (main_arg19 : FVec F S50x768 .f32) (main_arg20 : FVec F S50x768x768 .f32) (main_arg21 : FVec F S50x768 .f32) (main_arg22 : FVec F S3072x1536 .f32) (main_arg23 : FVec F S1536 .f32) (main_arg24 : FVec F S1536 .f32) (main_arg25 : FVec F S1536 .f32) (main_arg26 : FVec F S1536x768 .f32) (main_arg27 : FVec F S768 .f32) : IVec S1x768 1 × IVec S1000x768 1 × IVec S768x768 1 × IVec S768 1 × IVec S768x768 1 × IVec S768 1 × IVec S768x768 1 :=
  let main_v0 : FVec F S1x768 .f32 := Host.absf main_arg0
  let main_cst : FVec F S_ .f32 := constant S_ .f32 0x7F800000#32
  let main_v1 : FVec F S1x768 .f32 := broadcastInDim S1x768 ![] bcast_S_S1x768 main_cst
  let main_v2 : IVec S1x768 1 := cmpf .olt main_v0 main_v1
  let main_v3 : FVec F S1000x768 .f32 := Host.absf main_arg1
  let main_cst_0 : FVec F S_ .f32 := constant S_ .f32 0x7F800000#32
  let main_v4 : FVec F S1000x768 .f32 := broadcastInDim S1000x768 ![] bcast_S_S1000x768 main_cst_0
  let main_v5 : IVec S1000x768 1 := cmpf .olt main_v3 main_v4
  let main_v6 : FVec F S768x768 .f32 := Host.absf main_arg2
  let main_cst_1 : FVec F S_ .f32 := constant S_ .f32 0x7F800000#32
  let main_v7 : FVec F S768x768 .f32 := broadcastInDim S768x768 ![] bcast_S_S768x768 main_cst_1
  let main_v8 : IVec S768x768 1 := cmpf .olt main_v6 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_v12 : FVec F S768x768 .f32 := Host.absf main_arg4
  let main_cst_3 : FVec F S_ .f32 := constant S_ .f32 0x7F800000#32
  let main_v13 : FVec F S768x768 .f32 := broadcastInDim S768x768 ![] bcast_S_S768x768 main_cst_3
  let main_v14 : IVec S768x768 1 := cmpf .olt main_v12 main_v13
  let main_v15 : FVec F S768 .f32 := Host.absf main_arg5
  let main_cst_4 : FVec F S_ .f32 := constant S_ .f32 0x7F800000#32
  let main_v16 : FVec F S768 .f32 := broadcastInDim S768 ![] bcast_S_S768 main_cst_4
  let main_v17 : IVec S768 1 := cmpf .olt main_v15 main_v16
  fn_part1 (F := F) main_arg6 main_v2 main_v5 main_v8 main_v11 main_v14 main_v17
-- ==== Kernel.lean ====
abbrev S1x768 : Shape := ⟨2, ![1, 768]⟩
abbrev S1000x768 : Shape := ⟨2, ![1000, 768]⟩
abbrev S768x768 : Shape := ⟨2, ![768, 768]⟩
abbrev S768 : Shape := ⟨1, ![768]⟩
abbrev S768x1536 : Shape := ⟨2, ![768, 1536]⟩
abbrev S1536 : Shape := ⟨1, ![1536]⟩
abbrev S1536x768 : Shape := ⟨2, ![1536, 768]⟩
abbrev S768x50 : Shape := ⟨2, ![768, 50]⟩
abbrev S50 : Shape := ⟨1, ![50]⟩
abbrev S50x768x768 : Shape := ⟨3, ![50, 768, 768]⟩
abbrev S50x768 : Shape := ⟨2, ![50, 768]⟩
abbrev S3072x1536 : Shape := ⟨2, ![3072, 1536]⟩
abbrev S_ : Shape := ⟨0, ![]⟩
abbrev S718 : Shape := ⟨1, ![718]⟩
abbrev S1x1536 : Shape := ⟨2, ![1, 1536]⟩
abbrev S9x1536 : Shape := ⟨2, ![9, 1536]⟩
abbrev S100x768 : Shape := ⟨2, ![100, 768]⟩
abbrev S1x50 : Shape := ⟨2, ![1, 50]⟩
abbrev S4x768x768 : Shape := ⟨3, ![4, 768, 768]⟩
abbrev S4x2 : Shape := ⟨2, ![4, 2]⟩
abbrev S1536x1536 : Shape := ⟨2, ![1536, 1536]⟩
abbrev S9 : Shape := ⟨1, ![9]⟩
abbrev S1x1 : Shape := ⟨2, ![1, 1]⟩
abbrev S1x768x768 : Shape := ⟨3, ![1, 768, 768]⟩
abbrev S1 : Shape := ⟨1, ![1]⟩
abbrev S8x768 : Shape := ⟨2, ![8, 768]⟩
abbrev S768x8 : Shape := ⟨2, ![768, 8]⟩
abbrev S1000x8 : Shape := ⟨2, ![1000, 8]⟩
abbrev S8 : Shape := ⟨1, ![8]⟩
abbrev S1x8 : Shape := ⟨2, ![1, 8]⟩
abbrev S1x1x50 : Shape := ⟨3, ![1, 1, 50]⟩
abbrev S1x1x1 : Shape := ⟨3, ![1, 1, 1]⟩

abbrev nBuf : Space → Nat
  | .hbm => 46
  | .vmem => 19
  | .smem => 0
  | _ => 0

abbrev bufTy : (tb : Table) → Fin (tcTables nBuf tb) → BufTy
  | .hbm, ⟨0, _⟩ => ⟨S1x768, .f32⟩
  | .hbm, ⟨1, _⟩ => ⟨S1000x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768x1536, .f32⟩
  | .hbm, ⟨11, _⟩ => ⟨S1536, .f32⟩
  | .hbm, ⟨12, _⟩ => ⟨S1536, .f32⟩
  | .hbm, ⟨13, _⟩ => ⟨S1536, .f32⟩
  | .hbm, ⟨14, _⟩ => ⟨S1536x768, .f32⟩
  | .hbm, ⟨15, _⟩ => ⟨S768, .f32⟩
  | .hbm, ⟨16, _⟩ => ⟨S768x50, .f32⟩
  | .hbm, ⟨17, _⟩ => ⟨S50, .f32⟩
  | .hbm, ⟨18, _⟩ => ⟨S50x768x768, .f32⟩
  | .hbm, ⟨19, _⟩ => ⟨S50x768, .f32⟩
  | .hbm, ⟨20, _⟩ => ⟨S50x768x768, .f32⟩
  | .hbm, ⟨21, _⟩ => ⟨S50x768, .f32⟩
  | .hbm, ⟨22, _⟩ => ⟨S3072x1536, .f32⟩
  | .hbm, ⟨23, _⟩ => ⟨S1536, .f32⟩
  | .hbm, ⟨24, _⟩ => ⟨S1536, .f32⟩
  | .hbm, ⟨25, _⟩ => ⟨S1536, .f32⟩
  | .hbm, ⟨26, _⟩ => ⟨S1536x768, .f32⟩
  | .hbm, ⟨27, _⟩ => ⟨S768, .f32⟩
  | .hbm, ⟨28, _⟩ => ⟨S_, .f32⟩
  | .hbm, ⟨29, _⟩ => ⟨S1536, .f32⟩
  | .hbm, ⟨30, _⟩ => ⟨S1536, .f32⟩
  | .hbm, ⟨31, _⟩ => ⟨S1536, .f32⟩
  | .hbm, ⟨32, _⟩ => ⟨S718, .f32⟩
  | .hbm, ⟨33, _⟩ => ⟨S1536, .f32⟩
  | .hbm, ⟨34, _⟩ => ⟨S1x1536, .f32⟩
  | .hbm, ⟨35, _⟩ => ⟨S1x1536, .f32⟩
  | .hbm, ⟨36, _⟩ => ⟨S1x1536, .f32⟩
  | .hbm, ⟨37, _⟩ => ⟨S1x1536, .f32⟩
  | .hbm, ⟨38, _⟩ => ⟨S1x1536, .f32⟩
  | .hbm, ⟨39, _⟩ => ⟨S1x1536, .f32⟩
  | .hbm, ⟨40, _⟩ => ⟨S1x1536, .f32⟩
  | .hbm, ⟨41, _⟩ => ⟨S1x1536, .f32⟩
  | .hbm, ⟨42, _⟩ => ⟨S1x1536, .f32⟩
  | .hbm, ⟨43, _⟩ => ⟨S9x1536, .f32⟩
  | .hbm, ⟨44, _⟩ => ⟨S100x768, .f32⟩
  | .hbm, ⟨45, _⟩ => ⟨S1x768, .f32⟩
  | .local _ .vmem, ⟨0, _⟩ => ⟨S1x768, .f32⟩
  | .local _ .vmem, ⟨1, _⟩ => ⟨S9x1536, .f32⟩
  | .local _ .vmem, ⟨2, _⟩ => ⟨S768x50, .f32⟩
  | .local _ .vmem, ⟨3, _⟩ => ⟨S100x768, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x50, .f32⟩
  | .local _ .vmem, ⟨8, _⟩ => ⟨S4x768x768, .f32⟩
  | .local _ .vmem, ⟨9, _⟩ => ⟨S4x768x768, .f32⟩
  | .local _ .vmem, ⟨10, _⟩ => ⟨S1000x768, .f32⟩
  | .local _ .vmem, ⟨11, _⟩ => ⟨S768x768, .f32⟩
  | .local _ .vmem, ⟨12, _⟩ => ⟨S768x768, .f32⟩
  | .local _ .vmem, ⟨13, _⟩ => ⟨S768x768, .f32⟩
  | .local _ .vmem, ⟨14, _⟩ => ⟨S768x768, .f32⟩
  | .local _ .vmem, ⟨15, _⟩ => ⟨S768x1536, .f32⟩
  | .local _ .vmem, ⟨16, _⟩ => ⟨S1536x768, .f32⟩
  | .local _ .vmem, ⟨17, _⟩ => ⟨S1536x1536, .f32⟩
  | .local _ .vmem, ⟨18, _⟩ => ⟨S1536x768, .f32⟩
  | _, _ => ⟨S1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_v0 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![25], ![false]⟩

def k0_off1 (i : grid0.Coords) (c0_i32_34 : BitVec 32) : Fin 2 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v37 : BitVec 32 := Scalar.addi v34 c0_i32_34
  let c0_i32_35 : BitVec 32 := 0#32
  ![v37.toNat, 0]
def k0_off2 (i : grid0.Coords) (c0_i32_34 : BitVec 32) : Fin 3 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v37 : BitVec 32 := Scalar.addi v34 c0_i32_34
  let c0_i32_36 : BitVec 32 := 0#32
  let c0_i32_37 : BitVec 32 := 0#32
  ![v37.toNat, 0, 0]
def k0_off3 (i : grid0.Coords) (c0_i32_33 : BitVec 32) : Fin 3 → Nat :=
  let c2_i32_32 : BitVec 32 := 2#32
  let arg0 : BitVec 32 := BitVec.ofNat 32 (i 0).val
  let v35 : BitVec 32 := Scalar.muli c2_i32_32 arg0
  let v36 : BitVec 32 := Scalar.addi v35 c0_i32_33
  let c0_i32_38 : BitVec 32 := 0#32
  let c0_i32_39 : BitVec 32 := 0#32
  ![v36.toNat, 0, 0]
def k0_off4 (i : grid0.Coords) (c0_i32_34 : BitVec 32) : Fin 2 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v37 : BitVec 32 := Scalar.addi v34 c0_i32_34
  let c1_i32_40 : BitVec 32 := 1#32
  ![v37.toNat, 1]
def k0_off5 (i : grid0.Coords) (c0_i32_33 : BitVec 32) : Fin 2 → Nat :=
  let c2_i32_32 : BitVec 32 := 2#32
  let arg0 : BitVec 32 := BitVec.ofNat 32 (i 0).val
  let v35 : BitVec 32 := Scalar.muli c2_i32_32 arg0
  let v36 : BitVec 32 := Scalar.addi v35 c0_i32_33
  let v58 : Index := Scalar.indexCast v36
  let c0_46 : Index := 0#32
  ![v58.toNat, 0]
def k0_off6 (i : grid0.Coords) (c0_i32_33 : BitVec 32) : Fin 2 → Nat :=
  let c50_i32 : BitVec 32 := 50#32
  let c2_i32_32 : BitVec 32 := 2#32
  let arg0 : BitVec 32 := BitVec.ofNat 32 (i 0).val
  let v35 : BitVec 32 := Scalar.muli c2_i32_32 arg0
  let v36 : BitVec 32 := Scalar.addi v35 c0_i32_33
  let v61 : BitVec 32 := Scalar.addi c50_i32 v36
  let v62 : Index := Scalar.indexCast v61
  let c0_47 : Index := 0#32
  ![v62.toNat, 0]
def k0_off7 (i : grid0.Coords) (c0_i32_34 : BitVec 32) : Fin 3 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v37 : BitVec 32 := Scalar.addi v34 c0_i32_34
  let v65 : Index := Scalar.indexCast v37
  let c0_48 : Index := 0#32
  let c0_49 : Index := 0#32
  ![v65.toNat, 0, 0]
def k0_cond13 (i : grid0.Coords) : BitVec 1 :=
  let c2_i32_84 : BitVec 32 := 2#32
  let arg0 : BitVec 32 := BitVec.ofNat 32 (i 0).val
  let v130 : BitVec 32 := Scalar.muli c2_i32_84 arg0
  let c4_i32_85 : BitVec 32 := 4#32
  let v131 : BitVec 32 := Scalar.addi v130 c4_i32_85
  let c50_i32_86 : BitVec 32 := 50#32
  let v132 : BitVec 1 := Scalar.cmpi .slt v131 c50_i32_86
  let v133 : BitVec 32 := Scalar.extui v132
  let c0_i32_87 : BitVec 32 := 0#32
  let v134 : BitVec 1 := Scalar.cmpi .ne v133 c0_i32_87
  v134

def k0_off8 (i : grid0.Coords) (c0_i32_94 : BitVec 32) : Fin 2 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v141 : BitVec 32 := Scalar.addi v34 c0_i32_94
  let c0_i32_95 : BitVec 32 := 0#32
  ![v141.toNat, 0]
def k0_off9 (i : grid0.Coords) (c0_i32_94 : BitVec 32) : Fin 3 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v141 : BitVec 32 := Scalar.addi v34 c0_i32_94
  let c0_i32_96 : BitVec 32 := 0#32
  let c0_i32_97 : BitVec 32 := 0#32
  ![v141.toNat, 0, 0]
def k0_off10 (i : grid0.Coords) (c0_i32_93 : BitVec 32) : Fin 3 → Nat :=
  let c2_i32_91 : BitVec 32 := 2#32
  let arg0 : BitVec 32 := BitVec.ofNat 32 (i 0).val
  let v138 : BitVec 32 := Scalar.muli c2_i32_91 arg0
  let c4_i32_92 : BitVec 32 := 4#32
  let v139 : BitVec 32 := Scalar.addi v138 c4_i32_92
  let v140 : BitVec 32 := Scalar.addi v139 c0_i32_93
  let c0_i32_98 : BitVec 32 := 0#32
  let c0_i32_99 : BitVec 32 := 0#32
  ![v140.toNat, 0, 0]
def k0_off11 (i : grid0.Coords) (c0_i32_94 : BitVec 32) : Fin 2 → Nat :=
  let arg0 : BitVec 32 := BitVec.ofNat 32 (i 0).val
  let c2_i32_30 : BitVec 32 := 2#32
  let v33 : BitVec 32 := Scalar.remsi arg0 c2_i32_30
  let c2_i32_31 : BitVec 32 := 2#32
  let v34 : BitVec 32 := Scalar.muli v33 c2_i32_31
  let v141 : BitVec 32 := Scalar.addi v34 c0_i32_94
  let c1_i32_100 : BitVec 32 := 1#32
  ![v141.toNat, 1]
def k0_cond14 (i : grid0.Coords) : BitVec 1 :=
  let arg0 : BitVec 32 := BitVec.ofNat 32 (i 0).val
  let c24_i32 : BitVec 32 := 24#32
  let v135 : BitVec 1 := Scalar.cmpi .eq arg0 c24_i32
  let v136 : BitVec 32 := Scalar.extui v135
  let c0_i32_90 : BitVec 32 := 0#32
  let v137 : BitVec 1 := Scalar.cmpi .ne v136 c0_i32_90
  v137

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_sqrt_hd" => some (((Real.sqrt 96)⁻¹ : ℝ) : EReal)
  | _ => none
-- ==== ReferenceIdeal.lean ====
abbrev S1x768 : Shape := ⟨2, ![1, 768]⟩
abbrev S1000x768 : Shape := ⟨2, ![1000, 768]⟩
abbrev S768x768 : Shape := ⟨2, ![768, 768]⟩
abbrev S768 : Shape := ⟨1, ![768]⟩
abbrev S768x1536 : Shape := ⟨2, ![768, 1536]⟩
abbrev S1536 : Shape := ⟨1, ![1536]⟩
abbrev S1536x768 : Shape := ⟨2, ![1536, 768]⟩
abbrev S768x50 : Shape := ⟨2, ![768, 50]⟩
abbrev S50 : Shape := ⟨1, ![50]⟩
abbrev S50x768x768 : Shape := ⟨3, ![50, 768, 768]⟩
abbrev S50x768 : Shape := ⟨2, ![50, 768]⟩
abbrev S3072x1536 : Shape := ⟨2, ![3072, 1536]⟩
abbrev S_ : Shape := ⟨0, ![]⟩
abbrev S1x8x96 : Shape := ⟨3, ![1, 8, 96]⟩
abbrev S1000x8x96 : Shape := ⟨3, ![1000, 8, 96]⟩
abbrev S8x1x1000 : Shape := ⟨3, ![8, 1, 1000]⟩
abbrev S8x1 : Shape := ⟨2, ![8, 1]⟩
abbrev S8x1x1 : Shape := ⟨3, ![8, 1, 1]⟩
abbrev S8x96x1 : Shape := ⟨3, ![8, 96, 1]⟩
abbrev S1x1536 : Shape := ⟨2, ![1, 1536]⟩
abbrev S1 : Shape := ⟨1, ![1]⟩
abbrev S1x1 : Shape := ⟨2, ![1, 1]⟩
abbrev S1x50 : Shape := ⟨2, ![1, 50]⟩
abbrev S50x768x1 : Shape := ⟨3, ![50, 768, 1]⟩
abbrev S50x1x768 : Shape := ⟨3, ![50, 1, 768]⟩
abbrev S50x1 : Shape := ⟨2, ![50, 1]⟩
abbrev S50x1x1 : Shape := ⟨3, ![50, 1, 1]⟩
abbrev S1x3072 : Shape := ⟨2, ![1, 3072]⟩

abbrev nBuf : Space → Nat
  | .hbm => 208
  | .vmem => 0
  | .smem => 0
  | _ => 0

abbrev hbmTy0_0 (i : Nat) : BufTy := match i % 128 with
  | 0 => ⟨S1x768, .f32⟩
  | 1 => ⟨S1000x768, .f32⟩
  | 2 => ⟨S768x768, .f32⟩
  | 3 => ⟨S768, .f32⟩
  | 4 => ⟨S768x768, .f32⟩
  | 5 => ⟨S768, .f32⟩
  | 6 => ⟨S768x768, .f32⟩
  | 7 => ⟨S768, .f32⟩
  | 8 => ⟨S768x768, .f32⟩
  | 9 => ⟨S768, .f32⟩
  | 10 => ⟨S768x1536, .f32⟩
  | 11 => ⟨S1536, .f32⟩
  | 12 => ⟨S1536, .f32⟩
  | 13 => ⟨S1536, .f32⟩
  | 14 => ⟨S1536x768, .f32⟩
  | 15 => ⟨S768, .f32⟩
  | 16 => ⟨S768x50, .f32⟩
  | 17 => ⟨S50, .f32⟩
  | 18 => ⟨S50x768x768, .f32⟩
  | 19 => ⟨S50x768, .f32⟩
  | 20 => ⟨S50x768x768, .f32⟩
  | 21 => ⟨S50x768, .f32⟩
  | 22 => ⟨S3072x1536, .f32⟩
  | 23 => ⟨S1536, .f32⟩
  | 24 => ⟨S1536, .f32⟩
  | 25 => ⟨S1536, .f32⟩
  | 26 => ⟨S1536x768, .f32⟩
  | 27 => ⟨S768, .f32⟩
  | 28 => ⟨S_, .f32⟩
  | 29 => ⟨S1x768, .f32⟩
  | 30 => ⟨S_, .f32⟩
  | 31 => ⟨S1x768, .f32⟩
  | 32 => ⟨S1x768, .f32⟩
  | 33 => ⟨S1x768, .f32⟩
  | 34 => ⟨S1x768, .f32⟩
  | 35 => ⟨S1x8x96, .f32⟩
  | 36 => ⟨S1000x768, .f32⟩
  | 37 => ⟨S1x768, .f32⟩
  | 38 => ⟨S1000x768, .f32⟩
  | 39 => ⟨S1000x768, .f32⟩
  | 40 => ⟨S1000x8x96, .f32⟩
  | 41 => ⟨S1000x768, .f32⟩
  | 42 => ⟨S1x768, .f32⟩
  | 43 => ⟨S1000x768, .f32⟩
  | 44 => ⟨S1000x768, .f32⟩
  | 45 => ⟨S1000x8x96, .f32⟩
  | 46 => ⟨S8x1x1000, .f32⟩
  | 47 => ⟨S_, .f32⟩
  | 48 => ⟨S_, .f32⟩
  | 49 => ⟨S8x1x1000, .f32⟩
  | 50 => ⟨S8x1x1000, .f32⟩
  | 51 => ⟨S_, .f32⟩
  | 52 => ⟨S8x1, .f32⟩
  | 53 => ⟨S_, .f32⟩
  | 54 => ⟨S8x1, .f32⟩
  | 55 => ⟨S8x1, .f32⟩
  | 56 => ⟨S8x1x1, .f32⟩
  | 57 => ⟨S8x1x1000, .f32⟩
  | 58 => ⟨S8x1x1000, .f32⟩
  | 59 => ⟨S8x1x1000, .f32⟩
  | 60 => ⟨S_, .f32⟩
  | 61 => ⟨S8x1, .f32⟩
  | 62 => ⟨S8x1x1, .f32⟩
  | 63 => ⟨S8x1x1000, .f32⟩
  | 64 => ⟨S8x1x1000, .f32⟩
  | 65 => ⟨S8x96x1, .f32⟩
  | 66 => ⟨S1x8x96, .f32⟩
  | 67 => ⟨S1x768, .f32⟩
  | 68 => ⟨S1x768, .f32⟩
  | 69 => ⟨S1x768, .f32⟩
  | 70 => ⟨S1x768, .f32⟩
  | 71 => ⟨S1x768, .f32⟩
  | 72 => ⟨S1x1536, .f32⟩
  | 73 => ⟨S1x1536, .f32⟩
  | 74 => ⟨S1x1536, .f32⟩
  | 75 => ⟨S_, .f32⟩
  | 76 => ⟨S1, .f32⟩
  | 77 => ⟨S1x1, .f32⟩
  | 78 => ⟨S_, .f32⟩
  | 79 => ⟨S1x1, .f32⟩
  | 80 => ⟨S1x1, .f32⟩
  | 81 => ⟨S_, .i32⟩
  | 82 => ⟨S_, .f32⟩
  | 83 => ⟨S1, .f32⟩
  | 84 => ⟨S1x1, .f32⟩
  | 85 => ⟨S_, .f32⟩
  | 86 => ⟨S1x1, .f32⟩
  | 87 => ⟨S1x1, .f32⟩
  | 88 => ⟨S1x1536, .f32⟩
  | 89 => ⟨S1x1536, .f32⟩
  | 90 => ⟨S1x1536, .f32⟩
  | 91 => ⟨S_, .f32⟩
  | 92 => ⟨S_, .f32⟩
  | 93 => ⟨S_, .f32⟩
  | 94 => ⟨S_, .f32⟩
  | 95 => ⟨S1, .f32⟩
  | 96 => ⟨S1x1, .f32⟩
  | 97 => ⟨S1x1, .f32⟩
  | 98 => ⟨S1x1, .f32⟩
  | 99 => ⟨S_, .f32⟩
  | 100 => ⟨S_, .i1⟩
  | 101 => ⟨S_, .f32⟩
  | 102 => ⟨S_, .f32⟩
  | 103 => ⟨S1x1, .f32⟩
  | 104 => ⟨S1x1, .f32⟩
  | 105 => ⟨S1x1536, .f32⟩
  | 106 => ⟨S1x1536, .f32⟩
  | 107 => ⟨S_, .f32⟩
  | 108 => ⟨S1x1, .f32⟩
  | 109 => ⟨S1x1, .f32⟩
  | 110 => ⟨S1x1, .f32⟩
  | 111 => ⟨S1x1536, .f32⟩
  | 112 => ⟨S1x1536, .f32⟩
  | 113 => ⟨S1x1536, .f32⟩
  | 114 => ⟨S1x1536, .f32⟩
  | 115 => ⟨S1x1536, .f32⟩
  | 116 => ⟨S1x1536, .f32⟩
  | 117 => ⟨S_, .f32⟩
  | 118 => ⟨S1x1536, .f32⟩
  | 119 => ⟨S1x1536, .f32⟩
  | 120 => ⟨S1x768, .f32⟩
  | 121 => ⟨S1x768, .f32⟩
  | 122 => ⟨S1x768, .f32⟩
  | 123 => ⟨S1x50, .f32⟩
  | 124 => ⟨S1x50, .f32⟩
  | 125 => ⟨S1x50, .f32⟩
  | 126 => ⟨S_, .f32⟩
  | 127 => ⟨S1, .f32⟩
  | _ => ⟨S1x768, .f32⟩

abbrev hbmTy0_1 (i : Nat) : BufTy := match i % 128 with
  | 0 => ⟨S_, .f32⟩
  | 1 => ⟨S1, .f32⟩
  | 2 => ⟨S1, .f32⟩
  | 3 => ⟨S1x1, .f32⟩
  | 4 => ⟨S1x50, .f32⟩
  | 5 => ⟨S1x50, .f32⟩
  | 6 => ⟨S1x50, .f32⟩
  | 7 => ⟨S_, .f32⟩
  | 8 => ⟨S1, .f32⟩
  | 9 => ⟨S1x1, .f32⟩
  | 10 => ⟨S1x50, .f32⟩
  | 11 => ⟨S1x50, .f32⟩
  | 12 => ⟨S50x768x1, .f32⟩
  | 13 => ⟨S50x1x768, .f32⟩
  | 14 => ⟨S50x1x768, .f32⟩
  | 15 => ⟨S50x1x768, .f32⟩
  | 16 => ⟨S_, .f32⟩
  | 17 => ⟨S50x1x768, .f32⟩
  | 18 => ⟨S50x1x768, .f32⟩
  | 19 => ⟨S50x1x768, .f32⟩
  | 20 => ⟨S50x1x768, .f32⟩
  | 21 => ⟨S50x1x768, .f32⟩
  | 22 => ⟨S50x1, .f32⟩
  | 23 => ⟨S50x1x1, .f32⟩
  | 24 => ⟨S50x1x768, .f32⟩
  | 25 => ⟨S50x1x768, .f32⟩
  | 26 => ⟨S_, .f32⟩
  | 27 => ⟨S1x768, .f32⟩
  | 28 => ⟨S1x3072, .f32⟩
  | 29 => ⟨S1x1536, .f32⟩
  | 30 => ⟨S1x1536, .f32⟩
  | 31 => ⟨S1x1536, .f32⟩
  | 32 => ⟨S_, .f32⟩
  | 33 => ⟨S1, .f32⟩
  | 34 => ⟨S1x1, .f32⟩
  | 35 => ⟨S_, .f32⟩
  | 36 => ⟨S1x1, .f32⟩
  | 37 => ⟨S1x1, .f32⟩
  | 38 => ⟨S_, .i32⟩
  | 39 => ⟨S_, .f32⟩
  | 40 => ⟨S1, .f32⟩
  | 41 => ⟨S1x1, .f32⟩
  | 42 => ⟨S_, .f32⟩
  | 43 => ⟨S1x1, .f32⟩
  | 44 => ⟨S1x1, .f32⟩
  | 45 => ⟨S1x1536, .f32⟩
  | 46 => ⟨S1x1536, .f32⟩
  | 47 => ⟨S1x1536, .f32⟩
  | 48 => ⟨S_, .f32⟩
  | 49 => ⟨S_, .f32⟩
  | 50 => ⟨S_, .f32⟩
  | 51 => ⟨S_, .f32⟩
  | 52 => ⟨S1, .f32⟩
  | 53 => ⟨S1x1, .f32⟩
  | 54 => ⟨S1x1, .f32⟩
  | 55 => ⟨S1x1, .f32⟩
  | 56 => ⟨S_, .f32⟩
  | 57 => ⟨S_, .i1⟩
  | 58 => ⟨S_, .f32⟩
  | 59 => ⟨S_, .f32⟩
  | 60 => ⟨S1x1, .f32⟩
  | 61 => ⟨S1x1, .f32⟩
  | 62 => ⟨S1x1536, .f32⟩
  | 63 => ⟨S1x1536, .f32⟩
  | 64 => ⟨S_, .f32⟩
  | 65 => ⟨S1x1, .f32⟩
  | 66 => ⟨S1x1, .f32⟩
  | 67 => ⟨S1x1, .f32⟩
  | 68 => ⟨S1x1536, .f32⟩
  | 69 => ⟨S1x1536, .f32⟩
  | 70 => ⟨S1x1536, .f32⟩
  | 71 => ⟨S1x1536, .f32⟩
  | 72 => ⟨S1x1536, .f32⟩
  | 73 => ⟨S1x1536, .f32⟩
  | 74 => ⟨S_, .f32⟩
  | 75 => ⟨S1x1536, .f32⟩
  | 76 => ⟨S1x1536, .f32⟩
  | 77 => ⟨S1x768, .f32⟩
  | 78 => ⟨S1x768, .f32⟩
  | 79 => ⟨S1x768, .f32⟩
  | _ => ⟨S1x768, .f32⟩

abbrev hbmTy (i : Nat) : BufTy := match i / 128 with
  | 0 => hbmTy0_0 i
  | 1 => hbmTy0_1 i
  | _ => ⟨S1x768, .f32⟩

abbrev bufTy : (tb : Table) → Fin (tcTables nBuf tb) → BufTy
  | .hbm, ⟨i, _⟩ => hbmTy i
  | _, _ => ⟨S1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_cst_6 : Ref sig .tc := ⟨.hbm, 78, rfl⟩
abbrev main_v43 : Ref sig .tc := ⟨.hbm, 79, rfl⟩
abbrev main_v44 : Ref sig .tc := ⟨.hbm, 80, rfl⟩
abbrev main_c : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_v12 : Ref sig .tc := ⟨.hbm, 98, rfl⟩
abbrev main_call0_cst_3 : Ref sig .tc := ⟨.hbm, 99, rfl⟩
abbrev main_call0_v13 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_7 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_call1_cst : Ref sig .tc := ⟨.hbm, 117, rfl⟩
abbrev main_call1_v0 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_8 : Ref sig .tc := ⟨.hbm, 126, rfl⟩
abbrev main_v64 : Ref sig .tc := ⟨.hbm, 127, rfl⟩
abbrev main_cst_9 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_cst_10 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_call2_cst : Ref sig .tc := ⟨.hbm, 144, rfl⟩
abbrev main_call2_v0 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_11 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_12 : Ref sig .tc := ⟨.hbm, 160, rfl⟩
abbrev main_v92 : Ref sig .tc := ⟨.hbm, 161, rfl⟩
abbrev main_v93 : Ref sig .tc := ⟨.hbm, 162, rfl⟩
abbrev main_cst_13 : Ref sig .tc := ⟨.hbm, 163, rfl⟩
abbrev main_v94 : Ref sig .tc := ⟨.hbm, 164, rfl⟩
abbrev main_v95 : Ref sig .tc := ⟨.hbm, 165, rfl⟩
abbrev main_c_14 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_cst_0 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_cst_1 : Ref sig .tc := ⟨.hbm, 177, rfl⟩
abbrev main_call3_v8 : Ref sig .tc := ⟨.hbm, 178, rfl⟩
abbrev main_call3_cst_2 : Ref sig .tc := ⟨.hbm, 179, rfl⟩
abbrev main_call3_v9 : Ref sig .tc := ⟨.hbm, 180, rfl⟩
abbrev main_call3_v10 : Ref sig .tc := ⟨.hbm, 181, rfl⟩
abbrev main_call3_v11 : Ref sig .tc := ⟨.hbm, 182, rfl⟩
abbrev main_call3_v12 : Ref sig .tc := ⟨.hbm, 183, rfl⟩
abbrev main_call3_cst_3 : Ref sig .tc := ⟨.hbm, 184, rfl⟩
abbrev main_call3_v13 : Ref sig .tc := ⟨.hbm, 185, rfl⟩
abbrev main_call3_cst_4 : Ref sig .tc := ⟨.hbm, 186, rfl⟩
abbrev main_call3_call0_v0 : Ref sig .tc := ⟨.hbm, 187, rfl⟩
abbrev main_call3_call0_v1 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_cst_15 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_call4_cst : Ref sig .tc := ⟨.hbm, 202, rfl⟩
abbrev main_call4_v0 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩

abbrev nD : Nat := 1
abbrev τ : Topo := Topo.v7x

variable {F : FTy → Type} [FloatOps F]
-- ==== Proof.KI.Names.lean ====
/-
  The ring buffers' slots, their cells and the blocks of the two HBM weight stacks, named once, and the equations that
  rewrite the body's computed slices to those names; the constant copies' ends; the pieces of the invariant.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

/-! ## The kernel's whole operands -/

abbrev hb0 : Memref sig .tc .hbm S1000x768 .f32 := Memref.whole main_arg1
abbrev hb1 : Memref sig .tc .hbm S768x768 .f32 := Memref.whole main_arg2
abbrev hb2 : Memref sig .tc .hbm S768x768 .f32 := Memref.whole main_arg4
abbrev hb3 : Memref sig .tc .hbm S768x768 .f32 := Memref.whole main_arg6
abbrev hb4 : Memref sig .tc .hbm S768x768 .f32 := Memref.whole main_arg8
abbrev hb5 : Memref sig .tc .hbm S768x1536 .f32 := Memref.whole main_arg10
abbrev hb6 : Memref sig .tc .hbm S1536x768 .f32 := Memref.whole main_arg14
abbrev hb7 : Memref sig .tc .hbm S3072x1536 .f32 := Memref.whole main_arg22
abbrev hb8 : Memref sig .tc .hbm S1536x768 .f32 := Memref.whole main_arg26
abbrev hbS1 : Memref sig .tc .hbm S50x768x768 .f32 := Memref.whole main_arg18
abbrev hbS2 : Memref sig .tc .hbm S50x768x768 .f32 := Memref.whole main_arg20
abbrev semM : Memref sig .tc .vmem S1x768 .f32 := Memref.whole cc0_scratch0
abbrev accM : Memref sig .tc .vmem S1x768 .f32 := Memref.whole cc0_scratch1
abbrev scM : Memref sig .tc .vmem S1x50 .f32 := Memref.whole cc0_scratch2
abbrev ring1 : Memref sig .tc .vmem S4x768x768 .f32 := Memref.whole cc0_scratch3
abbrev ring2 : Memref sig .tc .vmem S4x768x768 .f32 := Memref.whole cc0_scratch4
abbrev cb0 : Memref sig .tc .vmem S1000x768 .f32 := Memref.whole cc0_scratch6
abbrev cb1 : Memref sig .tc .vmem S768x768 .f32 := Memref.whole cc0_scratch7
abbrev cb2 : Memref sig .tc .vmem S768x768 .f32 := Memref.whole cc0_scratch8
abbrev cb3 : Memref sig .tc .vmem S768x768 .f32 := Memref.whole cc0_scratch9
abbrev cb4 : Memref sig .tc .vmem S768x768 .f32 := Memref.whole cc0_scratch10
abbrev cb5 : Memref sig .tc .vmem S768x1536 .f32 := Memref.whole cc0_scratch11
abbrev cb6 : Memref sig .tc .vmem S1536x768 .f32 := Memref.whole cc0_scratch12
abbrev cb7 : Memref sig .tc .vmem S1536x1536 .f32 := Memref.whole cc0_scratch13
abbrev cb8 : Memref sig .tc .vmem S1536x768 .f32 := Memref.whole cc0_scratch14
/-- The rows of the fusion's first weight that are copied: the lower half. -/
abbrev hb7s : Memref sig .tc .hbm S1536x1536 .f32 :=
  hb7.slice (Rect.unit (s := S3072x1536) ![1536, 0] S1536x1536.size inb_S3072x1536_S1536x1536_1536_0) (fun _ => rfl)

/-- No run-time variants. -/
abbrev 𝒱₀ : Variants := Variants.none

/-! ## The slots, the cells, the blocks -/

abbrev slotOff (s : Fin 4) : Fin 3 → ℕ := ![s.val, 0, 0]
theorem slotOff_inb (s : Fin 4) : ∀ a, slotOff s a + S1x768x768.size a ≤ S4x768x768.size a := by revert s; decide
abbrev blkOff (b : Fin 50) : Fin 3 → ℕ := ![b.val, 0, 0]
theorem blkOff_inb (b : Fin 50) : ∀ a, blkOff b a + S1x768x768.size a ≤ S50x768x768.size a := by revert b; decide
abbrev cellOff (s : Fin 4) (j : Fin 2) : Fin 2 → ℕ := ![s.val, j.val]
theorem cellOff_inb (s : Fin 4) (j : Fin 2) : ∀ a, cellOff s j a + S1x1.size a ≤ S4x2.size a := by revert s j; decide

def slot1 (s : Fin 4) : Memref sig .tc .vmem S768x768 .f32 :=
  (ring1.slice (Rect.unit (s := S4x768x768) (slotOff s) S1x768x768.size (slotOff_inb s)) (fun _ => rfl)).squeeze S768x768 squeezes_S1x768x768_S768x768
def slot2 (s : Fin 4) : Memref sig .tc .vmem S768x768 .f32 :=
  (ring2.slice (Rect.unit (s := S4x768x768) (slotOff s) S1x768x768.size (slotOff_inb s)) (fun _ => rfl)).squeeze S768x768 squeezes_S1x768x768_S768x768
def blk1 (b : Fin 50) : Memref sig .tc .hbm S768x768 .f32 :=
  (hbS1.slice (Rect.unit (s := S50x768x768) (blkOff b) S1x768x768.size (blkOff_inb b)) (fun _ => rfl)).squeeze S768x768 squeezes_S1x768x768_S768x768
def blk2 (b : Fin 50) : Memref sig .tc .hbm S768x768 .f32 :=
  (hbS2.slice (Rect.unit (s := S50x768x768) (blkOff b) S1x768x768.size (blkOff_inb b)) (fun _ => rfl)).squeeze S768x768 squeezes_S1x768x768_S768x768
def cell (s : Fin 4) (j : Fin 2) : DmaSems sig S_ :=
  (cc0_scratch5.slice (Rect.unit (s := S4x2) (cellOff s j) S1x1.size (cellOff_inb s j))).squeeze S_ squeezes_S1x1_S_

/-- Skill `n`'s slot, skill `n`'s block. -/
def sl (n : ℕ) : Fin 4 := ⟨n % 4, Nat.mod_lt _ (by decide)⟩
def bk (n : ℕ) : Fin 50 := ⟨n % 50, Nat.mod_lt _ (by decide)⟩

/-! ## The body's slices are those names -/

theorem slot1_congr {off : Fin 3 → ℕ} {s : Fin 4} (e : off = slotOff s) (hh hs) :
    (ring1.slice (Rect.unit (s := S4x768x768) off S1x768x768.size hh) hs).squeeze S768x768 squeezes_S1x768x768_S768x768 = slot1 s :=
  congrArg (fun M : Memref sig .tc .vmem S1x768x768 .f32 => M.squeeze S768x768 squeezes_S1x768x768_S768x768) (Memref.slice_unit_congr _ e _ _ _ _)
theorem slot2_congr {off : Fin 3 → ℕ} {s : Fin 4} (e : off = slotOff s) (hh hs) :
    (ring2.slice (Rect.unit (s := S4x768x768) off S1x768x768.size hh) hs).squeeze S768x768 squeezes_S1x768x768_S768x768 = slot2 s :=
  congrArg (fun M : Memref sig .tc .vmem S1x768x768 .f32 => M.squeeze S768x768 squeezes_S1x768x768_S768x768) (Memref.slice_unit_congr _ e _ _ _ _)
theorem blk1_congr {off : Fin 3 → ℕ} {b : Fin 50} (e : off = blkOff b) (hh hs) :
    (hbS1.slice (Rect.unit (s := S50x768x768) off S1x768x768.size hh) hs).squeeze S768x768 squeezes_S1x768x768_S768x768 = blk1 b :=
  congrArg (fun M : Memref sig .tc .hbm S1x768x768 .f32 => M.squeeze S768x768 squeezes_S1x768x768_S768x768) (Memref.slice_unit_congr _ e _ _ _ _)
theorem blk2_congr {off : Fin 3 → ℕ} {b : Fin 50} (e : off = blkOff b) (hh hs) :
    (hbS2.slice (Rect.unit (s := S50x768x768) off S1x768x768.size hh) hs).squeeze S768x768 squeezes_S1x768x768_S768x768 = blk2 b :=
  congrArg (fun M : Memref sig .tc .hbm S1x768x768 .f32 => M.squeeze S768x768 squeezes_S1x768x768_S768x768) (Memref.slice_unit_congr _ e _ _ _ _)
theorem cell_congr {off : Fin 2 → ℕ} {s : Fin 4} {j : Fin 2} (e : off = cellOff s j) (hh) :
    (cc0_scratch5.slice (Rect.unit (s := S4x2) off S1x1.size hh)).squeeze S_ squeezes_S1x1_S_ = cell s j :=
  congrArg (fun M : DmaSems sig S1x1 => M.squeeze S_ squeezes_S1x1_S_) (SemArray.slice_unit_congr _ e _ _)

@[sl_canon] theorem slot1L0 (hh hs) : (ring1.slice (Rect.unit (s := S4x768x768) ![0, 0, 0] S1x768x768.size hh) hs).squeeze S768x768 squeezes_S1x768x768_S768x768 = slot1 0 := slot1_congr (by decide) _ _
@[sl_canon] theorem blk1L0 (hh hs) : (hbS1.slice (Rect.unit (s := S50x768x768) ![0, 0, 0] S1x768x768.size hh) hs).squeeze S768x768 squeezes_S1x768x768_S768x768 = blk1 0 := blk1_congr (by decide) _ _
@[sl_canon] theorem cellL0_0 (hh) : (cc0_scratch5.slice (Rect.unit (s := S4x2) ![0, 0] S1x1.size hh)).squeeze S_ squeezes_S1x1_S_ = cell 0 0 := cell_congr (by decide) _
@[sl_canon] theorem slot2L0 (hh hs) : (ring2.slice (Rect.unit (s := S4x768x768) ![0, 0, 0] S1x768x768.size hh) hs).squeeze S768x768 squeezes_S1x768x768_S768x768 = slot2 0 := slot2_congr (by decide) _ _
@[sl_canon] theorem blk2L0 (hh hs) : (hbS2.slice (Rect.unit (s := S50x768x768) ![0, 0, 0] S1x768x768.size hh) hs).squeeze S768x768 squeezes_S1x768x768_S768x768 = blk2 0 := blk2_congr (by decide) _ _
@[sl_canon] theorem cellL0_1 (hh) : (cc0_scratch5.slice (Rect.unit (s := S4x2) ![0, 1] S1x1.size hh)).squeeze S_ squeezes_S1x1_S_ = cell 0 1 := cell_congr (by decide) _
@[sl_canon] theorem slot1L1 (hh hs) : (ring1.slice (Rect.unit (s := S4x768x768) ![1, 0, 0] S1x768x768.size hh) hs).squeeze S768x768 squeezes_S1x768x768_S768x768 = slot1 1 := slot1_congr (by decide) _ _
@[sl_canon] theorem blk1L1 (hh hs) : (hbS1.slice (Rect.unit (s := S50x768x768) ![1, 0, 0] S1x768x768.size hh) hs).squeeze S768x768 squeezes_S1x768x768_S768x768 = blk1 1 := blk1_congr (by decide) _ _
@[sl_canon] theorem cellL1_0 (hh) : (cc0_scratch5.slice (Rect.unit (s := S4x2) ![1, 0] S1x1.size hh)).squeeze S_ squeezes_S1x1_S_ = cell 1 0 := cell_congr (by decide) _
@[sl_canon] theorem slot2L1 (hh hs) : (ring2.slice (Rect.unit (s := S4x768x768) ![1, 0, 0] S1x768x768.size hh) hs).squeeze S768x768 squeezes_S1x768x768_S768x768 = slot2 1 := slot2_congr (by decide) _ _
@[sl_canon] theorem blk2L1 (hh hs) : (hbS2.slice (Rect.unit (s := S50x768x768) ![1, 0, 0] S1x768x768.size hh) hs).squeeze S768x768 squeezes_S1x768x768_S768x768 = blk2 1 := blk2_congr (by decide) _ _
@[sl_canon] theorem cellL1_1 (hh) : (cc0_scratch5.slice (Rect.unit (s := S4x2) ![1, 1] S1x1.size hh)).squeeze S_ squeezes_S1x1_S_ = cell 1 1 := cell_congr (by decide) _
@[sl_canon] theorem slot1L2 (hh hs) : (ring1.slice (Rect.unit (s := S4x768x768) ![2, 0, 0] S1x768x768.size hh) hs).squeeze S768x768 squeezes_S1x768x768_S768x768 = slot1 2 := slot1_congr (by decide) _ _
@[sl_canon] theorem blk1L2 (hh hs) : (hbS1.slice (Rect.unit (s := S50x768x768) ![2, 0, 0] S1x768x768.size hh) hs).squeeze S768x768 squeezes_S1x768x768_S768x768 = blk1 2 := blk1_congr (by decide) _ _
@[sl_canon] theorem cellL2_0 (hh) : (cc0_scratch5.slice (Rect.unit (s := S4x2) ![2, 0] S1x1.size hh)).squeeze S_ squeezes_S1x1_S_ = cell 2 0 := cell_congr (by decide) _
@[sl_canon] theorem slot2L2 (hh hs) : (ring2.slice (Rect.unit (s := S4x768x768) ![2, 0, 0] S1x768x768.size hh) hs).squeeze S768x768 squeezes_S1x768x768_S768x768 = slot2 2 := slot2_congr (by decide) _ _
@[sl_canon] theorem blk2L2 (hh hs) : (hbS2.slice (Rect.unit (s := S50x768x768) ![2, 0, 0] S1x768x768.size hh) hs).squeeze S768x768 squeezes_S1x768x768_S768x768 = blk2 2 := blk2_congr (by decide) _ _
@[sl_canon] theorem cellL2_1 (hh) : (cc0_scratch5.slice (Rect.unit (s := S4x2) ![2, 1] S1x1.size hh)).squeeze S_ squeezes_S1x1_S_ = cell 2 1 := cell_congr (by decide) _
@[sl_canon] theorem slot1L3 (hh hs) : (ring1.slice (Rect.unit (s := S4x768x768) ![3, 0, 0] S1x768x768.size hh) hs).squeeze S768x768 squeezes_S1x768x768_S768x768 = slot1 3 := slot1_congr (by decide) _ _
@[sl_canon] theorem blk1L3 (hh hs) : (hbS1.slice (Rect.unit (s := S50x768x768) ![3, 0, 0] S1x768x768.size hh) hs).squeeze S768x768 squeezes_S1x768x768_S768x768 = blk1 3 := blk1_congr (by decide) _ _
@[sl_canon] theorem cellL3_0 (hh) : (cc0_scratch5.slice (Rect.unit (s := S4x2) ![3, 0] S1x1.size hh)).squeeze S_ squeezes_S1x1_S_ = cell 3 0 := cell_congr (by decide) _
@[sl_canon] theorem slot2L3 (hh hs) : (ring2.slice (Rect.unit (s := S4x768x768) ![3, 0, 0] S1x768x768.size hh) hs).squeeze S768x768 squeezes_S1x768x768_S768x768 = slot2 3 := slot2_congr (by decide) _ _
@[sl_canon] theorem blk2L3 (hh hs) : (hbS2.slice (Rect.unit (s := S50x768x768) ![3, 0, 0] S1x768x768.size hh) hs).squeeze S768x768 squeezes_S1x768x768_S768x768 = blk2 3 := blk2_congr (by decide) _ _
@[sl_canon] theorem cellL3_1 (hh) : (cc0_scratch5.slice (Rect.unit (s := S4x2) ![3, 1] S1x1.size hh)).squeeze S_ squeezes_S1x1_S_ = cell 3 1 := cell_congr (by decide) _

section Point
variable (i : grid0.Coords)
theorem i_lt : (i 0).val < 25 := (i 0).isLt
theorem sl_val (r : ℕ) (hr : r < 2) : 2 * ((i 0).val % 2) + r = (sl (2 * (i 0).val + r)).val := by
  unfold sl; show _ = (2 * (i 0).val + r) % 4; omega
theorem bk_val (r : ℕ) (hr : r < 2) : 2 * (i 0).val + r = (bk (2 * (i 0).val + r)).val := by
  have := i_lt i; unfold bk; show _ = (2 * (i 0).val + r) % 50; omega
theorem bk_val4 (r : ℕ) (hr : r < 2) (h : (i 0).val < 23) : 2 * (i 0).val + r + 4 = (bk (2 * (i 0).val + r + 4)).val := by
  have := i_lt i; unfold bk; show _ = (2 * (i 0).val + r + 4) % 50; omega
theorem off1_0 : k0_off1 i 0#32 = cellOff (sl (2 * (i 0).val + 0)) 0 := (k0_off1_eq i 0).trans (congrArg (fun n => (![n, 0] : Fin 2 → ℕ)) (sl_val i 0 (by decide)))
@[sl_canon] theorem cellK1_0 (hh) : (cc0_scratch5.slice (Rect.unit (s := S4x2) (k0_off1 i 0#32) S1x1.size hh)).squeeze S_ squeezes_S1x1_S_ = cell (sl (2 * (i 0).val + 0)) 0 := cell_congr (off1_0 i) _
theorem off4_0 : k0_off4 i 0#32 = cellOff (sl (2 * (i 0).val + 0)) 1 := (k0_off4_eq i 0).trans (congrArg (fun n => (![n, 1] : Fin 2 → ℕ)) (sl_val i 0 (by decide)))
@[sl_canon] theorem cellK4_0 (hh) : (cc0_scratch5.slice (Rect.unit (s := S4x2) (k0_off4 i 0#32) S1x1.size hh)).squeeze S_ squeezes_S1x1_S_ = cell (sl (2 * (i 0).val + 0)) 1 := cell_congr (off4_0 i) _
theorem off8_0 : k0_off8 i 0#32 = cellOff (sl (2 * (i 0).val + 0)) 0 := (k0_off8_eq i 0).trans (congrArg (fun n => (![n, 0] : Fin 2 → ℕ)) (sl_val i 0 (by decide)))
@[sl_canon] theorem cellK8_0 (hh) : (cc0_scratch5.slice (Rect.unit (s := S4x2) (k0_off8 i 0#32) S1x1.size hh)).squeeze S_ squeezes_S1x1_S_ = cell (sl (2 * (i 0).val + 0)) 0 := cell_congr (off8_0 i) _
theorem off11_0 : k0_off11 i 0#32 = cellOff (sl (2 * (i 0).val + 0)) 1 := (k0_off11_eq i 0).trans (congrArg (fun n => (![n, 1] : Fin 2 → ℕ)) (sl_val i 0 (by decide)))
@[sl_canon] theorem cellK11_0 (hh) : (cc0_scratch5.slice (Rect.unit (s := S4x2) (k0_off11 i 0#32) S1x1.size hh)).squeeze S_ squeezes_S1x1_S_ = cell (sl (2 * (i 0).val + 0)) 1 := cell_congr (off11_0 i) _
theorem off2_0 : k0_off2 i 0#32 = slotOff (sl (2 * (i 0).val + 0)) := (k0_off2_eq i 0).trans (congrArg (fun n => (![n, 0, 0] : Fin 3 → ℕ)) (sl_val i 0 (by decide)))
@[sl_canon] theorem slot1K2_0 (hh hs) : (ring1.slice (Rect.unit (s := S4x768x768) (k0_off2 i 0#32) S1x768x768.size hh) hs).squeeze S768x768 squeezes_S1x768x768_S768x768 = slot1 (sl (2 * (i 0).val + 0)) := slot1_congr (off2_0 i) _ _
@[sl_canon] theorem slot2K2_0 (hh hs) : (ring2.slice (Rect.unit (s := S4x768x768) (k0_off2 i 0#32) S1x768x768.size hh) hs).squeeze S768x768 squeezes_S1x768x768_S768x768 = slot2 (sl (2 * (i 0).val + 0)) := slot2_congr (off2_0 i) _ _
theorem off7_0 : k0_off7 i 0#32 = slotOff (sl (2 * (i 0).val + 0)) := (k0_off7_eq i 0).trans (congrArg (fun n => (![n, 0, 0] : Fin 3 → ℕ)) (sl_val i 0 (by decide)))
theorem off9_0 : k0_off9 i 0#32 = slotOff (sl (2 * (i 0).val + 0)) := (k0_off9_eq i 0).trans (congrArg (fun n => (![n, 0, 0] : Fin 3 → ℕ)) (sl_val i 0 (by decide)))
@[sl_canon] theorem slot1K9_0 (hh hs) : (ring1.slice (Rect.unit (s := S4x768x768) (k0_off9 i 0#32) S1x768x768.size hh) hs).squeeze S768x768 squeezes_S1x768x768_S768x768 = slot1 (sl (2 * (i 0).val + 0)) := slot1_congr (off9_0 i) _ _
@[sl_canon] theorem slot2K9_0 (hh hs) : (ring2.slice (Rect.unit (s := S4x768x768) (k0_off9 i 0#32) S1x768x768.size hh) hs).squeeze S768x768 squeezes_S1x768x768_S768x768 = slot2 (sl (2 * (i 0).val + 0)) := slot2_congr (off9_0 i) _ _
theorem off3_0 : k0_off3 i 0#32 = blkOff (bk (2 * (i 0).val + 0)) := (k0_off3_eq i 0).trans (congrArg (fun n => (![n, 0, 0] : Fin 3 → ℕ)) (bk_val i 0 (by decide)))
theorem off10_0 (h : (i 0).val < 23) : k0_off10 i 0#32 = blkOff (bk (2 * (i 0).val + 0 + 4)) := (k0_off10_eq i 0).trans (congrArg (fun n => (![n, 0, 0] : Fin 3 → ℕ)) (bk_val4 i 0 (by decide) h))
@[sl_canon] theorem blk1W0 (hh hs) : (hbS1.slice (Rect.unit (s := S50x768x768) (k0_off3 i 0#32) S1x768x768.size hh) hs).squeeze S768x768 squeezes_S1x768x768_S768x768 = blk1 (bk (2 * (i 0).val + 0)) := blk1_congr (off3_0 i) _ _
@[sl_canon] theorem blk1I0 (h : (i 0).val < 23) (hh hs) : (hbS1.slice (Rect.unit (s := S50x768x768) (k0_off10 i 0#32) S1x768x768.size hh) hs).squeeze S768x768 squeezes_S1x768x768_S768x768 = blk1 (bk (2 * (i 0).val + 0 + 4)) := blk1_congr (off10_0 i h) _ _
@[sl_canon] theorem blk2W0 (hh hs) : (hbS2.slice (Rect.unit (s := S50x768x768) (k0_off3 i 0#32) S1x768x768.size hh) hs).squeeze S768x768 squeezes_S1x768x768_S768x768 = blk2 (bk (2 * (i 0).val + 0)) := blk2_congr (off3_0 i) _ _
@[sl_canon] theorem blk2I0 (h : (i 0).val < 23) (hh hs) : (hbS2.slice (Rect.unit (s := S50x768x768) (k0_off10 i 0#32) S1x768x768.size hh) hs).squeeze S768x768 squeezes_S1x768x768_S768x768 = blk2 (bk (2 * (i 0).val + 0 + 4)) := blk2_congr (off10_0 i h) _ _
theorem off1_1 : k0_off1 i 1#32 = cellOff (sl (2 * (i 0).val + 1)) 0 := (k0_off1_eq i 1).trans (congrArg (fun n => (![n, 0] : Fin 2 → ℕ)) (sl_val i 1 (by decide)))
@[sl_canon] theorem cellK1_1 (hh) : (cc0_scratch5.slice (Rect.unit (s := S4x2) (k0_off1 i 1#32) S1x1.size hh)).squeeze S_ squeezes_S1x1_S_ = cell (sl (2 * (i 0).val + 1)) 0 := cell_congr (off1_1 i) _
theorem off4_1 : k0_off4 i 1#32 = cellOff (sl (2 * (i 0).val + 1)) 1 := (k0_off4_eq i 1).trans (congrArg (fun n => (![n, 1] : Fin 2 → ℕ)) (sl_val i 1 (by decide)))
@[sl_canon] theorem cellK4_1 (hh) : (cc0_scratch5.slice (Rect.unit (s := S4x2) (k0_off4 i 1#32) S1x1.size hh)).squeeze S_ squeezes_S1x1_S_ = cell (sl (2 * (i 0).val + 1)) 1 := cell_congr (off4_1 i) _
theorem off8_1 : k0_off8 i 1#32 = cellOff (sl (2 * (i 0).val + 1)) 0 := (k0_off8_eq i 1).trans (congrArg (fun n => (![n, 0] : Fin 2 → ℕ)) (sl_val i 1 (by decide)))
@[sl_canon] theorem cellK8_1 (hh) : (cc0_scratch5.slice (Rect.unit (s := S4x2) (k0_off8 i 1#32) S1x1.size hh)).squeeze S_ squeezes_S1x1_S_ = cell (sl (2 * (i 0).val + 1)) 0 := cell_congr (off8_1 i) _
theorem off11_1 : k0_off11 i 1#32 = cellOff (sl (2 * (i 0).val + 1)) 1 := (k0_off11_eq i 1).trans (congrArg (fun n => (![n, 1] : Fin 2 → ℕ)) (sl_val i 1 (by decide)))
@[sl_canon] theorem cellK11_1 (hh) : (cc0_scratch5.slice (Rect.unit (s := S4x2) (k0_off11 i 1#32) S1x1.size hh)).squeeze S_ squeezes_S1x1_S_ = cell (sl (2 * (i 0).val + 1)) 1 := cell_congr (off11_1 i) _
theorem off2_1 : k0_off2 i 1#32 = slotOff (sl (2 * (i 0).val + 1)) := (k0_off2_eq i 1).trans (congrArg (fun n => (![n, 0, 0] : Fin 3 → ℕ)) (sl_val i 1 (by decide)))
@[sl_canon] theorem slot1K2_1 (hh hs) : (ring1.slice (Rect.unit (s := S4x768x768) (k0_off2 i 1#32) S1x768x768.size hh) hs).squeeze S768x768 squeezes_S1x768x768_S768x768 = slot1 (sl (2 * (i 0).val + 1)) := slot1_congr (off2_1 i) _ _
@[sl_canon] theorem slot2K2_1 (hh hs) : (ring2.slice (Rect.unit (s := S4x768x768) (k0_off2 i 1#32) S1x768x768.size hh) hs).squeeze S768x768 squeezes_S1x768x768_S768x768 = slot2 (sl (2 * (i 0).val + 1)) := slot2_congr (off2_1 i) _ _
theorem off7_1 : k0_off7 i 1#32 = slotOff (sl (2 * (i 0).val + 1)) := (k0_off7_eq i 1).trans (congrArg (fun n => (![n, 0, 0] : Fin 3 → ℕ)) (sl_val i 1 (by decide)))
theorem off9_1 : k0_off9 i 1#32 = slotOff (sl (2 * (i 0).val + 1)) := (k0_off9_eq i 1).trans (congrArg (fun n => (![n, 0, 0] : Fin 3 → ℕ)) (sl_val i 1 (by decide)))
@[sl_canon] theorem slot1K9_1 (hh hs) : (ring1.slice (Rect.unit (s := S4x768x768) (k0_off9 i 1#32) S1x768x768.size hh) hs).squeeze S768x768 squeezes_S1x768x768_S768x768 = slot1 (sl (2 * (i 0).val + 1)) := slot1_congr (off9_1 i) _ _
@[sl_canon] theorem slot2K9_1 (hh hs) : (ring2.slice (Rect.unit (s := S4x768x768) (k0_off9 i 1#32) S1x768x768.size hh) hs).squeeze S768x768 squeezes_S1x768x768_S768x768 = slot2 (sl (2 * (i 0).val + 1)) := slot2_congr (off9_1 i) _ _
theorem off3_1 : k0_off3 i 1#32 = blkOff (bk (2 * (i 0).val + 1)) := (k0_off3_eq i 1).trans (congrArg (fun n => (![n, 0, 0] : Fin 3 → ℕ)) (bk_val i 1 (by decide)))
theorem off10_1 (h : (i 0).val < 23) : k0_off10 i 1#32 = blkOff (bk (2 * (i 0).val + 1 + 4)) := (k0_off10_eq i 1).trans (congrArg (fun n => (![n, 0, 0] : Fin 3 → ℕ)) (bk_val4 i 1 (by decide) h))
@[sl_canon] theorem blk1W1 (hh hs) : (hbS1.slice (Rect.unit (s := S50x768x768) (k0_off3 i 1#32) S1x768x768.size hh) hs).squeeze S768x768 squeezes_S1x768x768_S768x768 = blk1 (bk (2 * (i 0).val + 1)) := blk1_congr (off3_1 i) _ _
@[sl_canon] theorem blk1I1 (h : (i 0).val < 23) (hh hs) : (hbS1.slice (Rect.unit (s := S50x768x768) (k0_off10 i 1#32) S1x768x768.size hh) hs).squeeze S768x768 squeezes_S1x768x768_S768x768 = blk1 (bk (2 * (i 0).val + 1 + 4)) := blk1_congr (off10_1 i h) _ _
@[sl_canon] theorem blk2W1 (hh hs) : (hbS2.slice (Rect.unit (s := S50x768x768) (k0_off3 i 1#32) S1x768x768.size hh) hs).squeeze S768x768 squeezes_S1x768x768_S768x768 = blk2 (bk (2 * (i 0).val + 1)) := blk2_congr (off3_1 i) _ _
@[sl_canon] theorem blk2I1 (h : (i 0).val < 23) (hh hs) : (hbS2.slice (Rect.unit (s := S50x768x768) (k0_off10 i 1#32) S1x768x768.size hh) hs).squeeze S768x768 squeezes_S1x768x768_S768x768 = blk2 (bk (2 * (i 0).val + 1 + 4)) := blk2_congr (off10_1 i h) _ _

/-- A slot's window, read through the whole ring. -/
instance (s : Fin 4) : ClosedOff (slotOff s) := ⟨slotOff s, rfl⟩
instance : ClosedOff (k0_off2 i (BitVec.ofNat 32 0)) := ⟨slotOff (sl (2 * (i 0).val + 0)), off2_0 i⟩
instance : ClosedOff (k0_off7 i (BitVec.ofNat 32 0)) := ⟨slotOff (sl (2 * (i 0).val + 0)), off7_0 i⟩
instance : ClosedOff (k0_off9 i (BitVec.ofNat 32 0)) := ⟨slotOff (sl (2 * (i 0).val + 0)), off9_0 i⟩
instance : ClosedOff (k0_off2 i (BitVec.ofNat 32 1)) := ⟨slotOff (sl (2 * (i 0).val + 1)), off2_1 i⟩
instance : ClosedOff (k0_off7 i (BitVec.ofNat 32 1)) := ⟨slotOff (sl (2 * (i 0).val + 1)), off7_1 i⟩
instance : ClosedOff (k0_off9 i (BitVec.ofNat 32 1)) := ⟨slotOff (sl (2 * (i 0).val + 1)), off9_1 i⟩

/-- The conditions on the point. -/
theorem condEq (n : ℕ) (hn : n < 25) : Scalar.cmpi .ne (Scalar.extui (Scalar.cmpi .eq (BitVec.ofNat 32 (i 0).val) (BitVec.ofNat 32 n))) 0#32 = 1#1 ↔ (i 0).val = n := by
  have := i_lt i; word_cmp
theorem condGt : Scalar.cmpi .ne (Scalar.extui (Scalar.cmpi .sgt (BitVec.ofNat 32 (i 0).val) 0#32)) 0#32 = 1#1 ↔ 0 < (i 0).val := by
  have := i_lt i; word_cmp
theorem cond13 : k0_cond13 i = 1#1 ↔ (i 0).val < 23 := by revert i; decide +kernel
theorem cond14 : k0_cond14 i = 1#1 ↔ (i 0).val = 24 := by revert i; decide +kernel

end Point

/-! ## The pieces -/

section Pieces
variable (c : Dev nD) (X1 : Buf (Elt F) (hbS1.view.loc (c : Thread nD τ))) (X2 : Buf (Elt F) (hbS2.view.loc (c : Thread nD τ)))

abbrev cellP (s : Fin 4) (j : Fin 2) : sProp 𝕄 := semVal ((c : Thread nD τ), SemLoc.dma (cell s j).sem) 0
abbrev slotP1 (s : Fin 4) (f : Buf (Elt F) ((slot1 s).view.loc (c : Thread nD τ))) : sProp 𝕄 :=
  (slot1 s).view.loc (c : Thread nD τ) ↦[(slot1 s).view.set]{fullShare} f
abbrev homeP1 (b : Fin 50) : sProp 𝕄 := (blk1 b).view.loc (c : Thread nD τ) ↦[(blk1 b).view.set]{fullShare} X1
/-- Block `b`'s words as a slot's payload. -/
abbrev payload1 (b : Fin 50) : S768x768.Idx → Elt F .f32 := ReadAs.same.apply ((blk1 b).view.read (Elt F) X1)
abbrev landed1 (s : Fin 4) (b : Fin 50) (f : Buf (Elt F) ((slot1 s).view.loc (c : Thread nD τ))) : Buf (Elt F) ((slot1 s).view.loc (c : Thread nD τ)) :=
  (slot1 s).view.writes (Elt F) f [⟨Rect.whole S768x768, payload1 c X1 b⟩]
/-- Slot `s` in flight with block `b`. -/
abbrev flightP1 (s : Fin 4) (b : Fin 50) (f : Buf (Elt F) ((slot1 s).view.loc (c : Thread nD τ))) : sProp 𝕄 :=
  Transfers.Flight countersEmb (c : Thread nD τ) (SemLoc.dma (cell s 0).sem) () 73728 iprop(slotP1 c s (landed1 c X1 s b f) ∗ homeP1 c X1 b)
abbrev slotP2 (s : Fin 4) (f : Buf (Elt F) ((slot2 s).view.loc (c : Thread nD τ))) : sProp 𝕄 :=
  (slot2 s).view.loc (c : Thread nD τ) ↦[(slot2 s).view.set]{fullShare} f
abbrev homeP2 (b : Fin 50) : sProp 𝕄 := (blk2 b).view.loc (c : Thread nD τ) ↦[(blk2 b).view.set]{fullShare} X2
/-- Block `b`'s words as a slot's payload. -/
abbrev payload2 (b : Fin 50) : S768x768.Idx → Elt F .f32 := ReadAs.same.apply ((blk2 b).view.read (Elt F) X2)
abbrev landed2 (s : Fin 4) (b : Fin 50) (f : Buf (Elt F) ((slot2 s).view.loc (c : Thread nD τ))) : Buf (Elt F) ((slot2 s).view.loc (c : Thread nD τ)) :=
  (slot2 s).view.writes (Elt F) f [⟨Rect.whole S768x768, payload2 c X2 b⟩]
/-- Slot `s` in flight with block `b`. -/
abbrev flightP2 (s : Fin 4) (b : Fin 50) (f : Buf (Elt F) ((slot2 s).view.loc (c : Thread nD τ))) : sProp 𝕄 :=
  Transfers.Flight countersEmb (c : Thread nD τ) (SemLoc.dma (cell s 1).sem) () 73728 iprop(slotP2 c s (landed2 c X2 s b f) ∗ homeP2 c X2 b)

end Pieces

end Cert.KernelIdeal.Hand

end
-- ==== Proof.KI.Inv.lean ====
/-
  What the kernel's run computes, step by step, and what is held between two steps.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

/-! ## The constant copies' cells -/

theorem csem_inb (j : Fin 9) : ∀ a, (![j.val] : Fin 1 → ℕ) a + S1.size a ≤ S9.size a := by revert j; decide
def csem (j : Fin 9) : DmaSems sig S_ := (cc0_scratch15.slice (Rect.unit (s := S9) ![j.val] S1.size (csem_inb j))).squeeze S_ squeezes_S1_S_
@[sl_canon] theorem csemL0 (hh) : (cc0_scratch15.slice (Rect.unit (s := S9) ![0] S1.size hh)).squeeze S_ squeezes_S1_S_ = csem 0 := rfl
@[sl_canon] theorem csemL1 (hh) : (cc0_scratch15.slice (Rect.unit (s := S9) ![1] S1.size hh)).squeeze S_ squeezes_S1_S_ = csem 1 := rfl
@[sl_canon] theorem csemL2 (hh) : (cc0_scratch15.slice (Rect.unit (s := S9) ![2] S1.size hh)).squeeze S_ squeezes_S1_S_ = csem 2 := rfl
@[sl_canon] theorem csemL3 (hh) : (cc0_scratch15.slice (Rect.unit (s := S9) ![3] S1.size hh)).squeeze S_ squeezes_S1_S_ = csem 3 := rfl
@[sl_canon] theorem csemL4 (hh) : (cc0_scratch15.slice (Rect.unit (s := S9) ![4] S1.size hh)).squeeze S_ squeezes_S1_S_ = csem 4 := rfl
@[sl_canon] theorem csemL5 (hh) : (cc0_scratch15.slice (Rect.unit (s := S9) ![5] S1.size hh)).squeeze S_ squeezes_S1_S_ = csem 5 := rfl
@[sl_canon] theorem csemL6 (hh) : (cc0_scratch15.slice (Rect.unit (s := S9) ![6] S1.size hh)).squeeze S_ squeezes_S1_S_ = csem 6 := rfl
@[sl_canon] theorem csemL7 (hh) : (cc0_scratch15.slice (Rect.unit (s := S9) ![7] S1.size hh)).squeeze S_ squeezes_S1_S_ = csem 7 := rfl
@[sl_canon] theorem csemL8 (hh) : (cc0_scratch15.slice (Rect.unit (s := S9) ![8] S1.size hh)).squeeze S_ squeezes_S1_S_ = csem 8 := rfl

section Values
variable (c : Dev nD) (V : (b : Ref sig .tc) → Buf (Elt F) ((c : Thread nD τ).loc b))

/-! ## The values -/

/-- The input's block, the packed bias rows, the selector's weight, the skills' biases. -/
def xV : S1x768.Idx → Elt F .f32 := V main_arg0
def pkV : S9x1536.Idx → Elt F .f32 := V main_call0_v14
def swV : S768x50.Idx → Elt F .f32 := V main_arg16
def sbV : S100x768.Idx → Elt F .f32 := V main_call0_v15
/-- A row segment of the packed biases; a row of the skills' biases. -/
abbrev pkRow (off size : Fin 2 → ℕ) (h : ∀ a, off a + size a ≤ S9x1536.size a) := VecWindow.window (pkV c V) off size h
abbrev sbRow (off size : Fin 2 → ℕ) (h : ∀ a, off a + size a ≤ S100x768.size a) := VecWindow.window (sbV c V) off size h
abbrev XC0 : Buf (Elt F) (hb0.view.loc (c : Thread nD τ)) := V main_arg1
def cV0 : S1000x768.Idx → Elt F .f32 := V main_arg1
abbrev XC1 : Buf (Elt F) (hb1.view.loc (c : Thread nD τ)) := V main_arg2
def cV1 : S768x768.Idx → Elt F .f32 := V main_arg2
abbrev XC2 : Buf (Elt F) (hb2.view.loc (c : Thread nD τ)) := V main_arg4
def cV2 : S768x768.Idx → Elt F .f32 := V main_arg4
abbrev XC3 : Buf (Elt F) (hb3.view.loc (c : Thread nD τ)) := V main_arg6
def cV3 : S768x768.Idx → Elt F .f32 := V main_arg6
abbrev XC4 : Buf (Elt F) (hb4.view.loc (c : Thread nD τ)) := V main_arg8
def cV4 : S768x768.Idx → Elt F .f32 := V main_arg8
abbrev XC5 : Buf (Elt F) (hb5.view.loc (c : Thread nD τ)) := V main_arg10
def cV5 : S768x1536.Idx → Elt F .f32 := V main_arg10
abbrev XC6 : Buf (Elt F) (hb6.view.loc (c : Thread nD τ)) := V main_arg14
def cV6 : S1536x768.Idx → Elt F .f32 := V main_arg14
abbrev XC7 : Buf (Elt F) (hb7.view.loc (c : Thread nD τ)) := V main_arg22
def cV7 : S1536x1536.Idx → Elt F .f32 := hb7s.view.read (Elt F) (V main_arg22)
abbrev XC8 : Buf (Elt F) (hb8.view.loc (c : Thread nD τ)) := V main_arg26
def cV8 : S1536x768.Idx → Elt F .f32 := V main_arg26
abbrev X1 : Buf (Elt F) (hbS1.view.loc (c : Thread nD τ)) := V main_arg18
abbrev X2 : Buf (Elt F) (hbS2.view.loc (c : Thread nD τ)) := V main_arg20
/-- A skill's two weights. -/
def wb1 (b : Fin 50) : S1x768x768.Idx → Elt F .f32 := VecWindow.window (s := S50x768x768) (V main_arg18) (blkOff b) S1x768x768.size (blkOff_inb b)
def wb2 (b : Fin 50) : S1x768x768.Idx → Elt F .f32 := VecWindow.window (s := S50x768x768) (V main_arg20) (blkOff b) S1x768x768.size (blkOff_inb b)

/-- The skills' scores, computed at the first step. -/
def scV : S1x50.Idx → Elt F .f32 := k0_pay18 (xV c V) (pkRow c V ![8, 0] S1x50.size inb_S9x1536_S1x50_8_0) (swV c V)
/-- What step `i`'s two skills add. -/
def conV (i : grid0.Coords) : S1x768.Idx → Elt F .f32 :=
  k0_pay22 (xV c V) (scV c V) (iota .tc S1x50 32 [1] iota_S1x50_d1_w32)
    (k0_pay21 (xV c V) (scV c V) (k0_pay20 (BitVec.ofNat 32 (i 0).val))
      (sbRow c V (k0_off5 i 0#32) S1x768.size (k0_off5_inb i 0)) (sbRow c V (k0_off6 i 0#32) S1x768.size (k0_off6_inb i 0))
      (wb1 c V (bk (2 * (i 0).val + 0))) (wb2 c V (bk (2 * (i 0).val + 0))))
    (Scalar.addi (Scalar.muli 2#32 (BitVec.ofNat 32 (i 0).val)) 1#32)
    (sbRow c V (k0_off5 i 1#32) S1x768.size (k0_off5_inb i 1)) (sbRow c V (k0_off6 i 1#32) S1x768.size (k0_off6_inb i 1))
    (wb1 c V (bk (2 * (i 0).val + 1))) (wb2 c V (bk (2 * (i 0).val + 1)))
/-- The accumulator after the first `n + 1` steps. -/
def accV : ℕ → S1x768.Idx → Elt F .f32
  | 0 => shapeCast S1x768 (conV c V (grid0.coords ⟨0, by decide⟩)) shapeCasts_S1x768_S1x768
  | n + 1 => if h : n + 1 < grid0.N then k0_pay1 (conV c V (grid0.coords ⟨n + 1, h⟩)) (accV n) else accV n
/-- The semantic memory's row, computed at the eighth step. -/
def semV : S1x768.Idx → Elt F .f32 :=
  k0_pay19 (k0_pay5 (pkRow c V ![1, 768] S1x768.size inb_S9x1536_S1x768_1_768))
    (k0_pay10 (xV c V) (k0_pay4 (pkRow c V ![1, 0] S1x768.size inb_S9x1536_S1x768_1_0))
      (k0_pay9 (k0_pay3 (pkRow c V ![0, 768] S1x768.size inb_S9x1536_S1x768_0_768)) (k0_pay6 (xV c V) (pkRow c V ![0, 0] S1x768.size inb_S9x1536_S1x768_0_0) (cV1 c V))
        (iota .tc S8x768 32 [0] iota_S8x768_d0_w32) (iota .tc S8x768 32 [1] iota_S8x768_d1_w32) 96#32 k0_pay7 k0_pay8 (Scalar.extui (Scalar.cmpi .sgt 96#32 0#32))
        (cV2 c V) (cV0 c V) (cV0 c V) (cV3 c V))
      (cV4 c V) (pkRow c V ![2, 0] S1x1536.size inb_S9x1536_S1x1536_2_0) (pkRow c V ![3, 0] S1x1536.size inb_S9x1536_S1x1536_3_0) (pkRow c V ![4, 0] S1x1536.size inb_S9x1536_S1x1536_4_0)
      (cV5 c V) (cV6 c V))
/-- The result, stored at the last step. -/
def outV : S1x768.Idx → Elt F .f32 :=
  k0_pay2 (k0_pay11 (pkRow c V ![6, 0] S1x1536.size inb_S9x1536_S1x1536_6_0)) (k0_pay12 (pkRow c V ![7, 0] S1x1536.size inb_S9x1536_S1x1536_7_0)) (k0_pay13 (pkRow c V ![8, 768] S1x768.size inb_S9x1536_S1x768_8_768))
    (k0_pay16 (pkRow c V ![5, 0] S1x1536.size inb_S9x1536_S1x1536_5_0) (semV c V) (accV c V 24) (cV7 c V))
    (k0_pay17 (pkRow c V ![5, 0] S1x1536.size inb_S9x1536_S1x1536_5_0) (semV c V) (accV c V 24) (cV7 c V)) (cV8 c V)

/-! ## What is held between two steps -/

/-- A memref's elements at contents `g`. -/
abbrev bufP {sp s} (M : Memref sig .tc sp s .f32) (g : Buf (Elt F) (M.view.loc (c : Thread nD τ))) : sProp 𝕄 := M.view.loc (c : Thread nD τ) ↦[M.view.set]{fullShare} g

/-- Copy 0: before its issue, in flight, landed. -/
abbrev ccell0 : sProp 𝕄 := semVal ((c : Thread nD τ), SemLoc.dma (csem 0).sem) 0
abbrev clanded0 (f : Buf (Elt F) (cb0.view.loc (c : Thread nD τ))) : Buf (Elt F) (cb0.view.loc (c : Thread nD τ)) :=
  cb0.view.writes (Elt F) f [⟨Rect.whole S1000x768, ReadAs.same.apply (hb0.view.read (Elt F) (XC0 c V))⟩]
abbrev cflight0 (f : Buf (Elt F) (cb0.view.loc (c : Thread nD τ))) : sProp 𝕄 :=
  Transfers.Flight countersEmb (c : Thread nD τ) (SemLoc.dma (csem 0).sem) () 96000 iprop(bufP c cb0 (clanded0 c V f) ∗ bufP c hb0 (XC0 c V))
def cfree0 : sProp 𝕄 := iprop(ccell0 c ∗ (∃ f, bufP c cb0 f) ∗ bufP c hb0 (XC0 c V))
def cfly0 : sProp 𝕄 := iprop(∃ f, cflight0 c V f)
def cdone0 : sProp 𝕄 := iprop(ccell0 c ∗ bufP c cb0 (cV0 c V) ∗ bufP c hb0 (XC0 c V))
def cst0 (p : ℕ) : sProp 𝕄 := if p ≤ 0 then cfree0 c V else if p ≤ 7 then cfly0 c V else cdone0 c V
/-- Copy 1: before its issue, in flight, landed. -/
abbrev ccell1 : sProp 𝕄 := semVal ((c : Thread nD τ), SemLoc.dma (csem 1).sem) 0
abbrev clanded1 (f : Buf (Elt F) (cb1.view.loc (c : Thread nD τ))) : Buf (Elt F) (cb1.view.loc (c : Thread nD τ)) :=
  cb1.view.writes (Elt F) f [⟨Rect.whole S768x768, ReadAs.same.apply (hb1.view.read (Elt F) (XC1 c V))⟩]
abbrev cflight1 (f : Buf (Elt F) (cb1.view.loc (c : Thread nD τ))) : sProp 𝕄 :=
  Transfers.Flight countersEmb (c : Thread nD τ) (SemLoc.dma (csem 1).sem) () 73728 iprop(bufP c cb1 (clanded1 c V f) ∗ bufP c hb1 (XC1 c V))
def cfree1 : sProp 𝕄 := iprop(ccell1 c ∗ (∃ f, bufP c cb1 f) ∗ bufP c hb1 (XC1 c V))
def cfly1 : sProp 𝕄 := iprop(∃ f, cflight1 c V f)
def cdone1 : sProp 𝕄 := iprop(ccell1 c ∗ bufP c cb1 (cV1 c V) ∗ bufP c hb1 (XC1 c V))
def cst1 (p : ℕ) : sProp 𝕄 := if p ≤ 1 then cfree1 c V else if p ≤ 7 then cfly1 c V else cdone1 c V
/-- Copy 2: before its issue, in flight, landed. -/
abbrev ccell2 : sProp 𝕄 := semVal ((c : Thread nD τ), SemLoc.dma (csem 2).sem) 0
abbrev clanded2 (f : Buf (Elt F) (cb2.view.loc (c : Thread nD τ))) : Buf (Elt F) (cb2.view.loc (c : Thread nD τ)) :=
  cb2.view.writes (Elt F) f [⟨Rect.whole S768x768, ReadAs.same.apply (hb2.view.read (Elt F) (XC2 c V))⟩]
abbrev cflight2 (f : Buf (Elt F) (cb2.view.loc (c : Thread nD τ))) : sProp 𝕄 :=
  Transfers.Flight countersEmb (c : Thread nD τ) (SemLoc.dma (csem 2).sem) () 73728 iprop(bufP c cb2 (clanded2 c V f) ∗ bufP c hb2 (XC2 c V))
def cfree2 : sProp 𝕄 := iprop(ccell2 c ∗ (∃ f, bufP c cb2 f) ∗ bufP c hb2 (XC2 c V))
def cfly2 : sProp 𝕄 := iprop(∃ f, cflight2 c V f)
def cdone2 : sProp 𝕄 := iprop(ccell2 c ∗ bufP c cb2 (cV2 c V) ∗ bufP c hb2 (XC2 c V))
def cst2 (p : ℕ) : sProp 𝕄 := if p ≤ 1 then cfree2 c V else if p ≤ 7 then cfly2 c V else cdone2 c V
/-- Copy 3: before its issue, in flight, landed. -/
abbrev ccell3 : sProp 𝕄 := semVal ((c : Thread nD τ), SemLoc.dma (csem 3).sem) 0
abbrev clanded3 (f : Buf (Elt F) (cb3.view.loc (c : Thread nD τ))) : Buf (Elt F) (cb3.view.loc (c : Thread nD τ)) :=
  cb3.view.writes (Elt F) f [⟨Rect.whole S768x768, ReadAs.same.apply (hb3.view.read (Elt F) (XC3 c V))⟩]
abbrev cflight3 (f : Buf (Elt F) (cb3.view.loc (c : Thread nD τ))) : sProp 𝕄 :=
  Transfers.Flight countersEmb (c : Thread nD τ) (SemLoc.dma (csem 3).sem) () 73728 iprop(bufP c cb3 (clanded3 c V f) ∗ bufP c hb3 (XC3 c V))
def cfree3 : sProp 𝕄 := iprop(ccell3 c ∗ (∃ f, bufP c cb3 f) ∗ bufP c hb3 (XC3 c V))
def cfly3 : sProp 𝕄 := iprop(∃ f, cflight3 c V f)
def cdone3 : sProp 𝕄 := iprop(ccell3 c ∗ bufP c cb3 (cV3 c V) ∗ bufP c hb3 (XC3 c V))
def cst3 (p : ℕ) : sProp 𝕄 := if p ≤ 2 then cfree3 c V else if p ≤ 7 then cfly3 c V else cdone3 c V
/-- Copy 4: before its issue, in flight, landed. -/
abbrev ccell4 : sProp 𝕄 := semVal ((c : Thread nD τ), SemLoc.dma (csem 4).sem) 0
abbrev clanded4 (f : Buf (Elt F) (cb4.view.loc (c : Thread nD τ))) : Buf (Elt F) (cb4.view.loc (c : Thread nD τ)) :=
  cb4.view.writes (Elt F) f [⟨Rect.whole S768x768, ReadAs.same.apply (hb4.view.read (Elt F) (XC4 c V))⟩]
abbrev cflight4 (f : Buf (Elt F) (cb4.view.loc (c : Thread nD τ))) : sProp 𝕄 :=
  Transfers.Flight countersEmb (c : Thread nD τ) (SemLoc.dma (csem 4).sem) () 73728 iprop(bufP c cb4 (clanded4 c V f) ∗ bufP c hb4 (XC4 c V))
def cfree4 : sProp 𝕄 := iprop(ccell4 c ∗ (∃ f, bufP c cb4 f) ∗ bufP c hb4 (XC4 c V))
def cfly4 : sProp 𝕄 := iprop(∃ f, cflight4 c V f)
def cdone4 : sProp 𝕄 := iprop(ccell4 c ∗ bufP c cb4 (cV4 c V) ∗ bufP c hb4 (XC4 c V))
def cst4 (p : ℕ) : sProp 𝕄 := if p ≤ 2 then cfree4 c V else if p ≤ 7 then cfly4 c V else cdone4 c V
/-- Copy 5: before its issue, in flight, landed. -/
abbrev ccell5 : sProp 𝕄 := semVal ((c : Thread nD τ), SemLoc.dma (csem 5).sem) 0
abbrev clanded5 (f : Buf (Elt F) (cb5.view.loc (c : Thread nD τ))) : Buf (Elt F) (cb5.view.loc (c : Thread nD τ)) :=
  cb5.view.writes (Elt F) f [⟨Rect.whole S768x1536, ReadAs.same.apply (hb5.view.read (Elt F) (XC5 c V))⟩]
abbrev cflight5 (f : Buf (Elt F) (cb5.view.loc (c : Thread nD τ))) : sProp 𝕄 :=
  Transfers.Flight countersEmb (c : Thread nD τ) (SemLoc.dma (csem 5).sem) () 147456 iprop(bufP c cb5 (clanded5 c V f) ∗ bufP c hb5 (XC5 c V))
def cfree5 : sProp 𝕄 := iprop(ccell5 c ∗ (∃ f, bufP c cb5 f) ∗ bufP c hb5 (XC5 c V))
def cfly5 : sProp 𝕄 := iprop(∃ f, cflight5 c V f)
def cdone5 : sProp 𝕄 := iprop(ccell5 c ∗ bufP c cb5 (cV5 c V) ∗ bufP c hb5 (XC5 c V))
def cst5 (p : ℕ) : sProp 𝕄 := if p ≤ 3 then cfree5 c V else if p ≤ 7 then cfly5 c V else cdone5 c V
/-- Copy 6: before its issue, in flight, landed. -/
abbrev ccell6 : sProp 𝕄 := semVal ((c : Thread nD τ), SemLoc.dma (csem 6).sem) 0
abbrev clanded6 (f : Buf (Elt F) (cb6.view.loc (c : Thread nD τ))) : Buf (Elt F) (cb6.view.loc (c : Thread nD τ)) :=
  cb6.view.writes (Elt F) f [⟨Rect.whole S1536x768, ReadAs.same.apply (hb6.view.read (Elt F) (XC6 c V))⟩]
abbrev cflight6 (f : Buf (Elt F) (cb6.view.loc (c : Thread nD τ))) : sProp 𝕄 :=
  Transfers.Flight countersEmb (c : Thread nD τ) (SemLoc.dma (csem 6).sem) () 147456 iprop(bufP c cb6 (clanded6 c V f) ∗ bufP c hb6 (XC6 c V))
def cfree6 : sProp 𝕄 := iprop(ccell6 c ∗ (∃ f, bufP c cb6 f) ∗ bufP c hb6 (XC6 c V))
def cfly6 : sProp 𝕄 := iprop(∃ f, cflight6 c V f)
def cdone6 : sProp 𝕄 := iprop(ccell6 c ∗ bufP c cb6 (cV6 c V) ∗ bufP c hb6 (XC6 c V))
def cst6 (p : ℕ) : sProp 𝕄 := if p ≤ 4 then cfree6 c V else if p ≤ 7 then cfly6 c V else cdone6 c V
/-- Copy 7: before its issue, in flight, landed. -/
abbrev ccell7 : sProp 𝕄 := semVal ((c : Thread nD τ), SemLoc.dma (csem 7).sem) 0
abbrev clanded7 (f : Buf (Elt F) (cb7.view.loc (c : Thread nD τ))) : Buf (Elt F) (cb7.view.loc (c : Thread nD τ)) :=
  cb7.view.writes (Elt F) f [⟨Rect.whole S1536x1536, ReadAs.same.apply (hb7s.view.read (Elt F) (XC7 c V))⟩]
abbrev cflight7 (f : Buf (Elt F) (cb7.view.loc (c : Thread nD τ))) : sProp 𝕄 :=
  Transfers.Flight countersEmb (c : Thread nD τ) (SemLoc.dma (csem 7).sem) () 294912 iprop(bufP c cb7 (clanded7 c V f) ∗ bufP c hb7s (XC7 c V))
def cfree7 : sProp 𝕄 := iprop(ccell7 c ∗ (∃ f, bufP c cb7 f) ∗ bufP c hb7s (XC7 c V))
def cfly7 : sProp 𝕄 := iprop(∃ f, cflight7 c V f)
def cdone7 : sProp 𝕄 := iprop(ccell7 c ∗ bufP c cb7 (cV7 c V) ∗ bufP c hb7s (XC7 c V))
def cst7 (p : ℕ) : sProp 𝕄 := if p ≤ 5 then cfree7 c V else if p ≤ 24 then cfly7 c V else cdone7 c V
/-- Copy 8: before its issue, in flight, landed. -/
abbrev ccell8 : sProp 𝕄 := semVal ((c : Thread nD τ), SemLoc.dma (csem 8).sem) 0
abbrev clanded8 (f : Buf (Elt F) (cb8.view.loc (c : Thread nD τ))) : Buf (Elt F) (cb8.view.loc (c : Thread nD τ)) :=
  cb8.view.writes (Elt F) f [⟨Rect.whole S1536x768, ReadAs.same.apply (hb8.view.read (Elt F) (XC8 c V))⟩]
abbrev cflight8 (f : Buf (Elt F) (cb8.view.loc (c : Thread nD τ))) : sProp 𝕄 :=
  Transfers.Flight countersEmb (c : Thread nD τ) (SemLoc.dma (csem 8).sem) () 147456 iprop(bufP c cb8 (clanded8 c V f) ∗ bufP c hb8 (XC8 c V))
def cfree8 : sProp 𝕄 := iprop(ccell8 c ∗ (∃ f, bufP c cb8 f) ∗ bufP c hb8 (XC8 c V))
def cfly8 : sProp 𝕄 := iprop(∃ f, cflight8 c V f)
def cdone8 : sProp 𝕄 := iprop(ccell8 c ∗ bufP c cb8 (cV8 c V) ∗ bufP c hb8 (XC8 c V))
def cst8 (p : ℕ) : sProp 𝕄 := if p ≤ 6 then cfree8 c V else if p ≤ 24 then cfly8 c V else cdone8 c V

/-- Skill `n` in flight; a slot pair free; the two blocks of skill `b` home. -/
def flyAt (s : Fin 4) (b : Fin 50) : sProp 𝕄 := iprop((∃ f, flightP1 c (X1 c V) s b f) ∗ ∃ f, flightP2 c (X2 c V) s b f)
def fly (n : ℕ) : sProp 𝕄 := flyAt c V (sl n) (bk n)
def freeS (s : Fin 4) : sProp 𝕄 := iprop((∃ f, slotP1 c s f) ∗ (∃ f, slotP2 c s f) ∗ cellP c s 0 ∗ cellP c s 1)
def home (b : Fin 50) : sProp 𝕄 := iprop(homeP1 c (X1 c V) b ∗ homeP2 c (X2 c V) b)
/-- The skills home before step `p`: all at the start; then all but `2p … 2p + 3`. -/
def homeSet (p : ℕ) : Finset (Fin 50) := if p = 0 then Finset.univ else Finset.univ.filter fun b => b.val < 2 * p ∨ 2 * p + 4 ≤ b.val
def slotU (p n : ℕ) : sProp 𝕄 := if 1 ≤ p ∧ n < 50 then fly c V n else freeS c (sl n)
def ring (p : ℕ) : sProp 𝕄 :=
  iprop(bigSep (homeSet p) (home c V) ∗ slotU c V p (2 * p + 0) ∗ slotU c V p (2 * p + 1) ∗ slotU c V p (2 * p + 0 + 2) ∗ slotU c V p (2 * p + 1 + 2))

def semS (p : ℕ) : sProp 𝕄 := if p ≤ 7 then iprop(∃ f, bufP c semM f) else bufP c semM (semV c V)
def accS (p : ℕ) : sProp 𝕄 := if p = 0 then iprop(∃ f, bufP c accM f) else bufP c accM (accV c V (p - 1))
def scS (p : ℕ) : sProp 𝕄 := if p = 0 then iprop(∃ f, bufP c scM f) else bufP c scM (scV c V)

/-- What the body keeps between steps. -/
def inv (p : ℕ) : sProp 𝕄 :=
  iprop(ring c V p ∗ semS c V p ∗ accS c V p ∗ scS c V p
    ∗ cst0 c V p ∗ cst1 c V p ∗ cst2 c V p ∗ cst3 c V p ∗ cst4 c V p ∗ cst5 c V p ∗ cst6 c V p ∗ cst7 c V p ∗ cst8 c V p)

/-! ## The skills that go out and come home -/

section Homes
variable (p : ℕ)
theorem bk_val' {n : ℕ} (h : n < 50) : (bk n).val = n := Nat.mod_eq_of_lt h
theorem sl_add (n : ℕ) : sl (n + 4) = sl n := Fin.ext (by unfold sl; show (n + 4) % 4 = n % 4; omega)

/-- The skills neither going out nor coming home at step `p`. -/
def restSet (p : ℕ) : Finset (Fin 50) := Finset.univ.filter fun b => b.val < 2 * p ∨ 2 * p + 6 ≤ b.val

theorem homes_here (h1 : 1 ≤ p) (h : p < 23) (P : Fin 50 → sProp 𝕄) :
    bigSep (homeSet p) P = iprop(P (bk (2 * p + 0 + 4)) ∗ P (bk (2 * p + 1 + 4)) ∗ bigSep (restSet p) P) := by
  have e : homeSet p = insert (bk (2 * p + 0 + 4)) (insert (bk (2 * p + 1 + 4)) (restSet p)) := by
    ext b; simp only [homeSet, restSet, if_neg (show ¬ p = 0 by omega), Finset.mem_insert, Finset.mem_filter, Finset.mem_univ, true_and, Fin.ext_iff, bk_val' (show 2 * p + 0 + 4 < 50 by omega), bk_val' (show 2 * p + 1 + 4 < 50 by omega)]; omega
  rw [e, bigSep_insert, bigSep_insert]
  · rfl
  · simp only [restSet, Finset.mem_filter, Finset.mem_univ, true_and, bk_val' (show 2 * p + 1 + 4 < 50 by omega)]; omega
  · simp only [restSet, Finset.mem_insert, Finset.mem_filter, Finset.mem_univ, true_and, Fin.ext_iff, bk_val' (show 2 * p + 0 + 4 < 50 by omega), bk_val' (show 2 * p + 1 + 4 < 50 by omega)]; omega
theorem homes_next (h1 : 1 ≤ p) (h : p < 23) (P : Fin 50 → sProp 𝕄) :
    bigSep (homeSet (p + 1)) P = iprop(P (bk (2 * p + 0)) ∗ P (bk (2 * p + 1)) ∗ bigSep (restSet p) P) := by
  have e : homeSet (p + 1) = insert (bk (2 * p + 0)) (insert (bk (2 * p + 1)) (restSet p)) := by
    ext b; simp only [homeSet, restSet, if_neg (show ¬ p + 1 = 0 by omega), Finset.mem_insert, Finset.mem_filter, Finset.mem_univ, true_and, Fin.ext_iff, bk_val' (show 2 * p + 0 < 50 by omega), bk_val' (show 2 * p + 1 < 50 by omega)]; omega
  rw [e, bigSep_insert, bigSep_insert]
  · rfl
  · simp only [restSet, Finset.mem_filter, Finset.mem_univ, true_and, bk_val' (show 2 * p + 1 < 50 by omega)]; omega
  · simp only [restSet, Finset.mem_insert, Finset.mem_filter, Finset.mem_univ, true_and, Fin.ext_iff, bk_val' (show 2 * p + 0 < 50 by omega), bk_val' (show 2 * p + 1 < 50 by omega)]; omega
/-- At the two last steps nothing goes out. -/
theorem homes_last (h1 : 23 ≤ p) (h : p < 25) (P : Fin 50 → sProp 𝕄) :
    bigSep (homeSet (p + 1)) P = iprop(P (bk (2 * p + 0)) ∗ P (bk (2 * p + 1)) ∗ bigSep (homeSet p) P) := by
  have e : homeSet (p + 1) = insert (bk (2 * p + 0)) (insert (bk (2 * p + 1)) (homeSet p)) := by
    ext b; simp only [homeSet, if_neg (show ¬ p = 0 by omega), if_neg (show ¬ p + 1 = 0 by omega), Finset.mem_insert, Finset.mem_filter, Finset.mem_univ, true_and, Fin.ext_iff, bk_val' (show 2 * p + 0 < 50 by omega), bk_val' (show 2 * p + 1 < 50 by omega)]
    have := b.isLt; omega
  rw [e, bigSep_insert, bigSep_insert]
  · rfl
  · simp only [homeSet, if_neg (show ¬ p = 0 by omega), Finset.mem_filter, Finset.mem_univ, true_and, bk_val' (show 2 * p + 1 < 50 by omega)]; omega
  · simp only [homeSet, if_neg (show ¬ p = 0 by omega), Finset.mem_insert, Finset.mem_filter, Finset.mem_univ, true_and, Fin.ext_iff, bk_val' (show 2 * p + 0 < 50 by omega), bk_val' (show 2 * p + 1 < 50 by omega)]; omega
/-- The first step sends out six skills, the first two of which come home. -/
theorem homes_first (P : Fin 50 → sProp 𝕄) :
    bigSep (homeSet 0) P = iprop(P 0 ∗ P 1 ∗ P 2 ∗ P 3 ∗ P 4 ∗ P 5 ∗ bigSep (restSet 0) P) := by
  have e : homeSet 0 = insert 0 (insert 1 (insert 2 (insert 3 (insert 4 (insert 5 (restSet 0)))))) := by decide
  rw [e, bigSep_insert (by decide), bigSep_insert (by decide), bigSep_insert (by decide), bigSep_insert (by decide), bigSep_insert (by decide), bigSep_insert (by decide)]
  rfl
theorem homes_one (P : Fin 50 → sProp 𝕄) : bigSep (homeSet 1) P = iprop(P 0 ∗ P 1 ∗ bigSep (restSet 0) P) := by
  have e : homeSet 1 = insert 0 (insert 1 (restSet 0)) := by decide
  rw [e, bigSep_insert (by decide), bigSep_insert (by decide)]
  rfl
end Homes

end Values

end Cert.KernelIdeal.Hand

end
-- ==== Proof.KI.Open.lean ====
/-
  The body's resources at a step, opened and closed; the values its loads read.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

/-- The body on the given staging buffers. -/
abbrev bodyG : Prog (TpuEff nD τ sig (Elt F) Λ₀ .tc) PUnit :=
  cc0__body i xM hx pkM hpk swM hsw sbM hsb hb0 (Memref.isWhole_whole _) hb1 (Memref.isWhole_whole _) hb2 (Memref.isWhole_whole _) hb3 (Memref.isWhole_whole _) hb4 (Memref.isWhole_whole _)
    hb5 (Memref.isWhole_whole _) hb6 (Memref.isWhole_whole _) hb7 (Memref.isWhole_whole _) hb8 (Memref.isWhole_whole _) hbS1 (Memref.isWhole_whole _) hbS2 (Memref.isWhole_whole _)
    oM ho semM (Memref.isWhole_whole _) accM (Memref.isWhole_whole _) scM (Memref.isWhole_whole _) ring1 (Memref.isWhole_whole _) ring2 (Memref.isWhole_whole _) cc0_scratch5
    cb0 (Memref.isWhole_whole _) cb1 (Memref.isWhole_whole _) cb2 (Memref.isWhole_whole _) cb3 (Memref.isWhole_whole _) cb4 (Memref.isWhole_whole _) cb5 (Memref.isWhole_whole _)
    cb6 (Memref.isWhole_whole _) cb7 (Memref.isWhole_whole _) cb8 (Memref.isWhole_whole _) cc0_scratch15

/-- The staging buffers at a step. -/
def stage (gx : Buf (Elt F) (xM.view.loc (c : Thread nD τ))) (gpk : Buf (Elt F) (pkM.view.loc (c : Thread nD τ))) (gsw : Buf (Elt F) (swM.view.loc (c : Thread nD τ)))
    (gsb : Buf (Elt F) (sbM.view.loc (c : Thread nD τ))) : sProp 𝕄 := iprop(bufP c xM gx ∗ bufP c pkM gpk ∗ bufP c swM gsw ∗ bufP c sbM gsb)
/-- The output's staging buffer after step `p`. -/
def outS (p : ℕ) : sProp 𝕄 := iprop(∃ g, ⌜p = 24 → oM.view.read (Elt F) g = outV c V⌝ ∗ bufP c oM g)
def owesS : sProp 𝕄 := iprop(∃ W, owes (c : Thread nD τ) 0 W)

/-- The body of a step keeps the invariant. -/
def StepOk : Prop :=
  ∀ (gx : Buf (Elt F) (xM.view.loc (c : Thread nD τ))) (gpk : Buf (Elt F) (pkM.view.loc (c : Thread nD τ))) (gsw : Buf (Elt F) (swM.view.loc (c : Thread nD τ)))
    (gsb : Buf (Elt F) (sbM.view.loc (c : Thread nD τ))) (go : Buf (Elt F) (oM.view.loc (c : Thread nD τ))) (W : _),
    xM.view.read (Elt F) gx = xV c V → pkM.view.read (Elt F) gpk = pkV c V → swM.view.read (Elt F) gsw = swV c V → sbM.view.read (Elt F) gsb = sbV c V →
    iprop(inv c V (i 0).val ∗ stage c xM pkM swM sbM gx gpk gsw gsb ∗ bufP c oM go ∗ owes (c : Thread nD τ) 0 W)
    ⊢ wp frame (wpE (defs₀ (F := F)) 𝒱₀ (c : Thread nD τ) none) Set.univ (bodyG i xM hx pkM hpk swM hsw sbM hsb oM ho) fun _ =>
      iprop(inv c V ((i 0).val + 1) ∗ stage c xM pkM swM sbM gx gpk gsw gsb ∗ outS c V oM (i 0).val ∗ owesS c)

/-! ## The invariant's parts before and after a step -/

variable (p : ℕ)
theorem slotU_fly (n : ℕ) (h1 : 1 ≤ p) (h : n < 50) : slotU c V p n = fly c V n := if_pos ⟨h1, h⟩
theorem slotU_free (n : ℕ) (h : ¬ (1 ≤ p ∧ n < 50)) : slotU c V p n = freeS c (sl n) := if_neg h
theorem ring_next : ring c V (p + 1) = iprop(bigSep (homeSet (p + 1)) (home c V) ∗ slotU c V (p + 1) (2 * p + 0 + 2) ∗ slotU c V (p + 1) (2 * p + 1 + 2)
    ∗ slotU c V (p + 1) (2 * p + 0 + 4) ∗ slotU c V (p + 1) (2 * p + 1 + 4)) := by
  unfold ring
  rw [show 2 * (p + 1) + 0 = 2 * p + 0 + 2 by omega, show 2 * (p + 1) + 1 = 2 * p + 1 + 2 by omega]
theorem ring_zero : ring c V 0 = iprop((home c V 0 ∗ home c V 1 ∗ home c V 2 ∗ home c V 3 ∗ home c V 4 ∗ home c V 5 ∗ bigSep (restSet 0) (home c V))
    ∗ freeS c 0 ∗ freeS c 1 ∗ freeS c 2 ∗ freeS c 3) := by
  unfold ring
  rw [homes_first, slotU_free c V 0 _ (by omega), slotU_free c V 0 _ (by omega), slotU_free c V 0 _ (by omega), slotU_free c V 0 _ (by omega)]
  rfl
theorem ring_one : ring c V (0 + 1) = iprop((home c V 0 ∗ home c V 1 ∗ bigSep (restSet 0) (home c V))
    ∗ flyAt c V 2 2 ∗ flyAt c V 3 3 ∗ flyAt c V 0 4 ∗ flyAt c V 1 5) := by
  unfold ring
  rw [homes_one, slotU_fly c V _ _ (by omega) (by omega), slotU_fly c V _ _ (by omega) (by omega), slotU_fly c V _ _ (by omega) (by omega), slotU_fly c V _ _ (by omega) (by omega)]
  rfl
theorem accS_pos (h : 1 ≤ p) : accS c V p = bufP c accM (accV c V (p - 1)) := if_neg (by omega)
theorem scS_pos (h : 1 ≤ p) : scS c V p = bufP c scM (scV c V) := if_neg (by omega)
theorem semS_early (h : p ≤ 7) : semS c V p = iprop(∃ f, bufP c semM f) := if_pos h
theorem semS_late (h : 8 ≤ p) : semS c V p = bufP c semM (semV c V) := if_neg (by omega)
theorem cst0_free (h : p ≤ 0) : cst0 c V p = cfree0 c V := if_pos h
theorem cst0_fly (h : 0 < p) (h' : p ≤ 7) : cst0 c V p = cfly0 c V := (if_neg (by omega)).trans (if_pos h')
theorem cst0_done (h : 7 < p) : cst0 c V p = cdone0 c V := (if_neg (by omega)).trans (if_neg (by omega))
theorem cst0_keep (h : p ≤ 0 ↔ p + 1 ≤ 0) (h' : p ≤ 7 ↔ p + 1 ≤ 7) : cst0 c V p = cst0 c V (p + 1) := by unfold cst0; simp only [h, h']
theorem cst1_free (h : p ≤ 1) : cst1 c V p = cfree1 c V := if_pos h
theorem cst1_fly (h : 1 < p) (h' : p ≤ 7) : cst1 c V p = cfly1 c V := (if_neg (by omega)).trans (if_pos h')
theorem cst1_done (h : 7 < p) : cst1 c V p = cdone1 c V := (if_neg (by omega)).trans (if_neg (by omega))
theorem cst1_keep (h : p ≤ 1 ↔ p + 1 ≤ 1) (h' : p ≤ 7 ↔ p + 1 ≤ 7) : cst1 c V p = cst1 c V (p + 1) := by unfold cst1; simp only [h, h']
theorem cst2_free (h : p ≤ 1) : cst2 c V p = cfree2 c V := if_pos h
theorem cst2_fly (h : 1 < p) (h' : p ≤ 7) : cst2 c V p = cfly2 c V := (if_neg (by omega)).trans (if_pos h')
theorem cst2_done (h : 7 < p) : cst2 c V p = cdone2 c V := (if_neg (by omega)).trans (if_neg (by omega))
theorem cst2_keep (h : p ≤ 1 ↔ p + 1 ≤ 1) (h' : p ≤ 7 ↔ p + 1 ≤ 7) : cst2 c V p = cst2 c V (p + 1) := by unfold cst2; simp only [h, h']
theorem cst3_free (h : p ≤ 2) : cst3 c V p = cfree3 c V := if_pos h
theorem cst3_fly (h : 2 < p) (h' : p ≤ 7) : cst3 c V p = cfly3 c V := (if_neg (by omega)).trans (if_pos h')
theorem cst3_done (h : 7 < p) : cst3 c V p = cdone3 c V := (if_neg (by omega)).trans (if_neg (by omega))
theorem cst3_keep (h : p ≤ 2 ↔ p + 1 ≤ 2) (h' : p ≤ 7 ↔ p + 1 ≤ 7) : cst3 c V p = cst3 c V (p + 1) := by unfold cst3; simp only [h, h']
theorem cst4_free (h : p ≤ 2) : cst4 c V p = cfree4 c V := if_pos h
theorem cst4_fly (h : 2 < p) (h' : p ≤ 7) : cst4 c V p = cfly4 c V := (if_neg (by omega)).trans (if_pos h')
theorem cst4_done (h : 7 < p) : cst4 c V p = cdone4 c V := (if_neg (by omega)).trans (if_neg (by omega))
theorem cst4_keep (h : p ≤ 2 ↔ p + 1 ≤ 2) (h' : p ≤ 7 ↔ p + 1 ≤ 7) : cst4 c V p = cst4 c V (p + 1) := by unfold cst4; simp only [h, h']
theorem cst5_free (h : p ≤ 3) : cst5 c V p = cfree5 c V := if_pos h
theorem cst5_fly (h : 3 < p) (h' : p ≤ 7) : cst5 c V p = cfly5 c V := (if_neg (by omega)).trans (if_pos h')
theorem cst5_done (h : 7 < p) : cst5 c V p = cdone5 c V := (if_neg (by omega)).trans (if_neg (by omega))
theorem cst5_keep (h : p ≤ 3 ↔ p + 1 ≤ 3) (h' : p ≤ 7 ↔ p + 1 ≤ 7) : cst5 c V p = cst5 c V (p + 1) := by unfold cst5; simp only [h, h']
theorem cst6_free (h : p ≤ 4) : cst6 c V p = cfree6 c V := if_pos h
theorem cst6_fly (h : 4 < p) (h' : p ≤ 7) : cst6 c V p = cfly6 c V := (if_neg (by omega)).trans (if_pos h')
theorem cst6_done (h : 7 < p) : cst6 c V p = cdone6 c V := (if_neg (by omega)).trans (if_neg (by omega))
theorem cst6_keep (h : p ≤ 4 ↔ p + 1 ≤ 4) (h' : p ≤ 7 ↔ p + 1 ≤ 7) : cst6 c V p = cst6 c V (p + 1) := by unfold cst6; simp only [h, h']
theorem cst7_free (h : p ≤ 5) : cst7 c V p = cfree7 c V := if_pos h
theorem cst7_fly (h : 5 < p) (h' : p ≤ 24) : cst7 c V p = cfly7 c V := (if_neg (by omega)).trans (if_pos h')
theorem cst7_done (h : 24 < p) : cst7 c V p = cdone7 c V := (if_neg (by omega)).trans (if_neg (by omega))
theorem cst7_keep (h : p ≤ 5 ↔ p + 1 ≤ 5) (h' : p ≤ 24 ↔ p + 1 ≤ 24) : cst7 c V p = cst7 c V (p + 1) := by unfold cst7; simp only [h, h']
theorem cst8_free (h : p ≤ 6) : cst8 c V p = cfree8 c V := if_pos h
theorem cst8_fly (h : 6 < p) (h' : p ≤ 24) : cst8 c V p = cfly8 c V := (if_neg (by omega)).trans (if_pos h')
theorem cst8_done (h : 24 < p) : cst8 c V p = cdone8 c V := (if_neg (by omega)).trans (if_neg (by omega))
theorem cst8_keep (h : p ≤ 6 ↔ p + 1 ≤ 6) (h' : p ≤ 24 ↔ p + 1 ≤ 24) : cst8 c V p = cst8 c V (p + 1) := by unfold cst8; simp only [h, h']

/-! ## What the loads read -/

theorem slot_write {sp} (v : View sig .tc sp S768x768 .f32) (f : v.ty.Contents (Elt F)) (P : S768x768.Idx → Elt F .f32) :
    v.read (Elt F) (v.writes (Elt F) f [⟨Rect.whole S768x768, P⟩]) = P :=
  View.read_writes_full v f (off := fun _ => 0) (fun a => by omega) P []
theorem ld_slot1 (s : Fin 4) (b : Fin 50) (f) (off : Fin 3 → ℕ) (inb) (h : off = slotOff s) :
    ring1.view.readAt (Elt F) (Rect.unit (s := S4x768x768) off S1x768x768.size inb).toLoadRect (landed1 c (X1 c V) s b f) = wb1 c V b := by
  subst h
  have h0 : (slot1 s).view.read (Elt F) (landed1 c (X1 c V) s b f) = payload1 c (X1 c V) b := slot_write _ _ _
  funext y
  obtain ⟨y', rfl⟩ := (Shape.reshapeEquiv (squeezes_S1x768x768_S768x768).numel_eq).surjective y
  exact congrFun h0 y'
theorem ld_slot2 (s : Fin 4) (b : Fin 50) (f) (off : Fin 3 → ℕ) (inb) (h : off = slotOff s) :
    ring2.view.readAt (Elt F) (Rect.unit (s := S4x768x768) off S1x768x768.size inb).toLoadRect (landed2 c (X2 c V) s b f) = wb2 c V b := by
  subst h
  have h0 : (slot2 s).view.read (Elt F) (landed2 c (X2 c V) s b f) = payload2 c (X2 c V) b := slot_write _ _ _
  funext y
  obtain ⟨y', rfl⟩ := (Shape.reshapeEquiv (squeezes_S1x768x768_S768x768).numel_eq).surjective y
  exact congrFun h0 y'

theorem con_eq (v0 : S1x768.Idx → Elt F .f32) (v31 : S1x50.Idx → Elt F .f32) (v59 v63 : S1x768.Idx → Elt F .f32) (v66 v73 : S1x768x768.Idx → Elt F .f32) (v103 v107 : S1x768.Idx → Elt F .f32) (v110 v117 : S1x768x768.Idx → Elt F .f32)
    (h0 : v0 = xV c V) (h31 : v31 = scV c V) (h59 : v59 = sbRow c V (k0_off5 i 0#32) S1x768.size (k0_off5_inb i 0)) (h63 : v63 = sbRow c V (k0_off6 i 0#32) S1x768.size (k0_off6_inb i 0))
    (h66 : v66 = wb1 c V (bk (2 * (i 0).val + 0))) (h73 : v73 = wb2 c V (bk (2 * (i 0).val + 0)))
    (h103 : v103 = sbRow c V (k0_off5 i 1#32) S1x768.size (k0_off5_inb i 1)) (h107 : v107 = sbRow c V (k0_off6 i 1#32) S1x768.size (k0_off6_inb i 1))
    (h110 : v110 = wb1 c V (bk (2 * (i 0).val + 1))) (h117 : v117 = wb2 c V (bk (2 * (i 0).val + 1))) :
    k0_pay22 v0 v31 (iota .tc S1x50 32 [1] iota_S1x50_d1_w32) (k0_pay21 v0 v31 (k0_pay20 (BitVec.ofNat 32 (i 0).val)) v59 v63 v66 v73)
      (Scalar.addi (Scalar.muli 2#32 (BitVec.ofNat 32 (i 0).val)) 1#32) v103 v107 v110 v117 = conV c V i := by
  subst h0 h31 h59 h63 h66 h73 h103 h107 h110 h117
  rfl
theorem writes_two {sp} {s : Shape} (v : View sig .tc sp s .f32) (f : v.ty.Contents (Elt F)) (a b : View.Piece (Elt F) s .f32) : v.writes (Elt F) f [a, b] = v.writes (Elt F) (v.writes (Elt F) f [b]) [a] := rfl
theorem flight1_again (s : Fin 4) (b0 b : Fin 50) :
    Transfers.Flight countersEmb (c : Thread nD τ) (SemLoc.dma (cell s 0).sem) () 73728
      iprop(slotP1 c s ((slot1 s).view.writes (Elt F) (slot1 s).view.junk [⟨Rect.whole S768x768, payload1 c (X1 c V) b⟩, ⟨Rect.whole S768x768, payload1 c (X1 c V) b0⟩]) ∗ homeP1 c (X1 c V) b)
    ⊢ iprop(∃ f, flightP1 (F := F) c (X1 c V) s b f) := by
  rw [writes_two]
  iintro H
  iexists ((slot1 s).view.writes (Elt F) (slot1 s).view.junk [⟨Rect.whole S768x768, payload1 c (X1 c V) b0⟩])
  iexact H
theorem flight2_again (s : Fin 4) (b0 b : Fin 50) :
    Transfers.Flight countersEmb (c : Thread nD τ) (SemLoc.dma (cell s 1).sem) () 73728
      iprop(slotP2 c s ((slot2 s).view.writes (Elt F) (slot2 s).view.junk [⟨Rect.whole S768x768, payload2 c (X2 c V) b⟩, ⟨Rect.whole S768x768, payload2 c (X2 c V) b0⟩]) ∗ homeP2 c (X2 c V) b)
    ⊢ iprop(∃ f, flightP2 (F := F) c (X2 c V) s b f) := by
  rw [writes_two]
  iintro H
  iexists ((slot2 s).view.writes (Elt F) (slot2 s).view.junk [⟨Rect.whole S768x768, payload2 c (X2 c V) b0⟩])
  iexact H
theorem sem_eq (v0 : S1x768.Idx → Elt F .f32) (v152 : S1x768.Idx → Elt F .f32) (v154 : S1x768.Idx → Elt F .f32) (v156 : S1x768.Idx → Elt F .f32) (v158 : S1x768.Idx → Elt F .f32) (v160 : S768x768.Idx → Elt F .f32) (v194 : S768x768.Idx → Elt F .f32) (v196 : S1000x768.Idx → Elt F .f32) (v209 : S1000x768.Idx → Elt F .f32) (v211 : S768x768.Idx → Elt F .f32) (v217 : S768x768.Idx → Elt F .f32) (v221 : S1x1536.Idx → Elt F .f32) (v223 : S1x1536.Idx → Elt F .f32) (v225 : S1x1536.Idx → Elt F .f32) (v227 : S768x1536.Idx → Elt F .f32) (v254 : S1536x768.Idx → Elt F .f32)
    (hv0 : v0 = xV c V) (hv152 : v152 = pkRow c V ![0, 0] S1x768.size inb_S9x1536_S1x768_0_0) (hv154 : v154 = pkRow c V ![0, 768] S1x768.size inb_S9x1536_S1x768_0_768) (hv156 : v156 = pkRow c V ![1, 0] S1x768.size inb_S9x1536_S1x768_1_0) (hv158 : v158 = pkRow c V ![1, 768] S1x768.size inb_S9x1536_S1x768_1_768) (hv160 : v160 = cV1 c V) (hv194 : v194 = cV2 c V) (hv196 : v196 = cV0 c V) (hv209 : v209 = cV0 c V) (hv211 : v211 = cV3 c V) (hv217 : v217 = cV4 c V) (hv221 : v221 = pkRow c V ![2, 0] S1x1536.size inb_S9x1536_S1x1536_2_0) (hv223 : v223 = pkRow c V ![3, 0] S1x1536.size inb_S9x1536_S1x1536_3_0) (hv225 : v225 = pkRow c V ![4, 0] S1x1536.size inb_S9x1536_S1x1536_4_0) (hv227 : v227 = cV5 c V) (hv254 : v254 = cV6 c V) :
    k0_pay19 (k0_pay5 v158) (k0_pay10 v0 (k0_pay4 v156) (k0_pay9 (k0_pay3 v154) (k0_pay6 v0 v152 v160)
      (iota .tc S8x768 32 [0] iota_S8x768_d0_w32) (iota .tc S8x768 32 [1] iota_S8x768_d1_w32) 96#32 k0_pay7 k0_pay8 (Scalar.extui (Scalar.cmpi .sgt 96#32 0#32)) v194 v196 v209 v211)
      v217 v221 v223 v225 v227 v254) = semV c V := by
  subst hv0 hv152 hv154 hv156 hv158 hv160 hv194 hv196 hv209 hv211 hv217 hv221 hv223 hv225 hv227 hv254
  rfl
theorem out_eq (v143 : S1x1536.Idx → Elt F .f32) (v145 : S1x1536.Idx → Elt F .f32) (v147 : S1x1536.Idx → Elt F .f32) (v149 : S1x768.Idx → Elt F .f32) (v151 : S1x768.Idx → Elt F .f32) (v152a : S1x768.Idx → Elt F .f32) (v154a : S1536x1536.Idx → Elt F .f32) (v181 : S1536x768.Idx → Elt F .f32)
    (hv143 : v143 = pkRow c V ![5, 0] S1x1536.size inb_S9x1536_S1x1536_5_0) (hv145 : v145 = pkRow c V ![6, 0] S1x1536.size inb_S9x1536_S1x1536_6_0) (hv147 : v147 = pkRow c V ![7, 0] S1x1536.size inb_S9x1536_S1x1536_7_0) (hv149 : v149 = pkRow c V ![8, 768] S1x768.size inb_S9x1536_S1x768_8_768) (hv151 : v151 = semV c V) (hv152a : v152a = accV c V 24) (hv154a : v154a = cV7 c V) (hv181 : v181 = cV8 c V) :
    k0_pay2 (k0_pay11 v145) (k0_pay12 v147) (k0_pay13 v149) (k0_pay16 v143 v151 v152a v154a) (k0_pay17 v143 v151 v152a v154a) v181 = outV c V := by
  subst hv143 hv145 hv147 hv149 hv151 hv152a hv154a hv181
  rfl

/-- A load of a whole buffer; a load of a row of a buffer that reads a known array. -/
theorem ld_whole {sp} {s : Shape} (M : Memref sig .tc sp s .f32) (g : Buf (Elt F) (M.view.loc (c : Thread nD τ))) (A : s.Idx → Elt F .f32) (h : M.view.read (Elt F) g = A)
    {off : Fin s.rank → ℕ} (inb) : M.view.readAt (Elt F) (Rect.unit (s := s) off s.size inb).toLoadRect g = A := (View.readAt_full _ _ _).trans h
theorem ld_row {sp} {s : Shape} (M : Memref sig .tc sp s .f32) (g : Buf (Elt F) (M.view.loc (c : Thread nD τ))) (A : s.Idx → Elt F .f32) (h : M.view.read (Elt F) g = A)
    {off size : Fin s.rank → ℕ} (inb) : M.view.readAt (Elt F) (Rect.unit (s := s) off size inb).toLoadRect g = VecWindow.window A off size inb := h ▸ View.readAt_unit _ _ _ rfl _

theorem whole_write (b : Ref sig .tc) (f : (View.whole b).ty.Contents (Elt F)) {off : Fin b.ty.shape.rank → ℕ} (inb : ∀ a, off a + (b.ty.shape).size a ≤ (b.ty.shape).size a) (w) :
    (View.whole b).writes (Elt F) f [⟨Rect.unit off _ inb, w⟩] = w := View.read_writes_full (View.whole b) f inb w []
theorem whole_copy (b : Ref sig .tc) (f : (View.whole b).ty.Contents (Elt F)) (w : b.ty.shape.Idx → Elt F b.ty.elt) : (View.whole b).writes (Elt F) f [⟨Rect.whole b.ty.shape, w⟩] = w :=
  View.read_writes_full (View.whole b) f (off := fun _ => 0) (fun a => by omega) w []
theorem pt_of_eq {sp} {s : Shape} (M : Memref sig .tc sp s .f32) {f g : Buf (Elt F) (M.view.loc (c : Thread nD τ))} (h : f = g) : bufP c M f ⊢ bufP (F := F) c M g := h ▸ .rfl

theorem accV_step (hi : ∀ h, grid0.coords ⟨(i 0).val, h⟩ = i) (h1 : 1 ≤ (i 0).val) :
    accV c V ((i 0).val + 1 - 1) = k0_pay1 (conV c V i) (accV c V ((i 0).val - 1)) := by
  obtain ⟨n, hn⟩ : ∃ n, (i 0).val = n + 1 := ⟨(i 0).val - 1, by omega⟩
  have hN : n + 1 < grid0.N := by have := i_lt i; have := Gen.N_0; omega
  simp only [hn] at hi ⊢
  rw [Nat.add_sub_cancel, accV, dif_pos hN, hi hN, Nat.add_sub_cancel]
theorem clanded0_eq (f) : clanded0 c V f = cV0 c V := whole_copy cc0_scratch6 f _
theorem ldc0 (f) : cb0.view.readAt (Elt F) (Rect.unit (s := S1000x768) ![0, 0] S1000x768.size inb_S1000x768_S1000x768_0_0).toLoadRect (clanded0 c V f) = cV0 c V := by
  rw [clanded0_eq]
  exact View.readAt_full cb0.view (cV0 c V) _
theorem clanded1_eq (f) : clanded1 c V f = cV1 c V := whole_copy cc0_scratch7 f _
theorem ldc1 (f) : cb1.view.readAt (Elt F) (Rect.unit (s := S768x768) ![0, 0] S768x768.size inb_S768x768_S768x768_0_0).toLoadRect (clanded1 c V f) = cV1 c V := by
  rw [clanded1_eq]
  exact View.readAt_full cb1.view (cV1 c V) _
theorem clanded2_eq (f) : clanded2 c V f = cV2 c V := whole_copy cc0_scratch8 f _
theorem ldc2 (f) : cb2.view.readAt (Elt F) (Rect.unit (s := S768x768) ![0, 0] S768x768.size inb_S768x768_S768x768_0_0).toLoadRect (clanded2 c V f) = cV2 c V := by
  rw [clanded2_eq]
  exact View.readAt_full cb2.view (cV2 c V) _
theorem clanded3_eq (f) : clanded3 c V f = cV3 c V := whole_copy cc0_scratch9 f _
theorem ldc3 (f) : cb3.view.readAt (Elt F) (Rect.unit (s := S768x768) ![0, 0] S768x768.size inb_S768x768_S768x768_0_0).toLoadRect (clanded3 c V f) = cV3 c V := by
  rw [clanded3_eq]
  exact View.readAt_full cb3.view (cV3 c V) _
theorem clanded4_eq (f) : clanded4 c V f = cV4 c V := whole_copy cc0_scratch10 f _
theorem ldc4 (f) : cb4.view.readAt (Elt F) (Rect.unit (s := S768x768) ![0, 0] S768x768.size inb_S768x768_S768x768_0_0).toLoadRect (clanded4 c V f) = cV4 c V := by
  rw [clanded4_eq]
  exact View.readAt_full cb4.view (cV4 c V) _
theorem clanded5_eq (f) : clanded5 c V f = cV5 c V := whole_copy cc0_scratch11 f _
theorem ldc5 (f) : cb5.view.readAt (Elt F) (Rect.unit (s := S768x1536) ![0, 0] S768x1536.size inb_S768x1536_S768x1536_0_0).toLoadRect (clanded5 c V f) = cV5 c V := by
  rw [clanded5_eq]
  exact View.readAt_full cb5.view (cV5 c V) _
theorem clanded6_eq (f) : clanded6 c V f = cV6 c V := whole_copy cc0_scratch12 f _
theorem ldc6 (f) : cb6.view.readAt (Elt F) (Rect.unit (s := S1536x768) ![0, 0] S1536x768.size inb_S1536x768_S1536x768_0_0).toLoadRect (clanded6 c V f) = cV6 c V := by
  rw [clanded6_eq]
  exact View.readAt_full cb6.view (cV6 c V) _
theorem clanded7_eq (f) : clanded7 c V f = cV7 c V := whole_copy cc0_scratch13 f _
theorem ldc7 (f) : cb7.view.readAt (Elt F) (Rect.unit (s := S1536x1536) ![0, 0] S1536x1536.size inb_S1536x1536_S1536x1536_0_0).toLoadRect (clanded7 c V f) = cV7 c V := by
  rw [clanded7_eq]
  exact View.readAt_full cb7.view (cV7 c V) _
theorem clanded8_eq (f) : clanded8 c V f = cV8 c V := whole_copy cc0_scratch14 f _
theorem ldc8 (f) : cb8.view.readAt (Elt F) (Rect.unit (s := S1536x768) ![0, 0] S1536x768.size inb_S1536x768_S1536x768_0_0).toLoadRect (clanded8 c V f) = cV8 c V := by
  rw [clanded8_eq]
  exact View.readAt_full cb8.view (cV8 c V) _
theorem ld_sc (f : Buf (Elt F) (scM.view.loc (c : Thread nD τ))) (w A : S1x50.Idx → Elt F .f32) (h : w = A) :
    scM.view.readAt (Elt F) (Rect.unit (s := S1x50) ![0, 0] S1x50.size inb_S1x50_S1x50_0_0).toLoadRect
      (scM.view.writes (Elt F) f [⟨Rect.unit (s := S1x50) ![0, 0] S1x50.size inb_S1x50_S1x50_0_0, w⟩]) = A :=
  (ld_whole c scM _ w (View.read_writes_full scM.view f inb_S1x50_S1x50_0_0 w []) _).trans h
theorem sc_eq (v0 : S1x768.Idx → Elt F .f32) (v138 : S1x50.Idx → Elt F .f32) (v140 : S768x50.Idx → Elt F .f32)
    (h0 : v0 = xV c V) (h138 : v138 = pkRow c V ![8, 0] S1x50.size inb_S9x1536_S1x50_8_0) (h140 : v140 = swV c V) : k0_pay18 v0 v138 v140 = scV c V := by
  subst h0 h138 h140
  rfl
theorem out_done (go : Buf (Elt F) (oM.view.loc (c : Thread nD τ))) (w : S1x768.Idx → Elt F .f32) (p : ℕ) (h : w = outV c V) :
    bufP c oM (oM.view.writes (Elt F) go [⟨Rect.unit (s := S1x768) ![0, 0] S1x768.size inb_S1x768_S1x768_0_0, w⟩]) ⊢ iprop(∃ g, ⌜p = 24 → oM.view.read (Elt F) g = outV c V⌝ ∗ bufP (F := F) c oM g) := by
  iintro H
  iexists (oM.view.writes (Elt F) go [⟨Rect.unit (s := S1x768) ![0, 0] S1x768.size inb_S1x768_S1x768_0_0, w⟩])
  isplitr
  · ipureintro; exact fun _ => (View.read_writes_full oM.view go inb_S1x768_S1x768_0_0 w []).trans h
  iexact H
theorem ld_acc (f : Buf (Elt F) (accM.view.loc (c : Thread nD τ))) (w A : S1x768.Idx → Elt F .f32) (h : w = A) :
    accM.view.readAt (Elt F) (Rect.unit (s := S1x768) ![0, 0] S1x768.size inb_S1x768_S1x768_0_0).toLoadRect
      (accM.view.writes (Elt F) f [⟨Rect.unit (s := S1x768) ![0, 0] S1x768.size inb_S1x768_S1x768_0_0, w⟩]) = A :=
  (ld_whole c accM _ w (View.read_writes_full accM.view f inb_S1x768_S1x768_0_0 w []) _).trans h

end Body

end Cert.KernelIdeal.Hand

end
-- ==== Proof.KI.Ends.lean ====
/-
  The launch's resources are the invariant before the first step, and the invariant after the last step gives them back.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Frame
public import Idealize.ShloMosaic.Lib.Ring.AtN
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

/-! ## The kernel's own cells, the buffers it addresses itself -/

abbrev osem0 : Fin 17 → SemLoc sig := ![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21]
theorem ownSemFacts0 : Pipeline.OwnSemFacts spec0 osem0 := by decide
def H0 : Finset (Ref sig .tc) := {main_arg1, main_arg2, main_arg4, main_arg6, main_arg8, main_arg10, main_arg14, main_arg18, main_arg20, main_arg22, main_arg26}
theorem H0_sub : H0 ⊆ Pipeline.restRefs sig spec0 := by decide +kernel

section Ends
variable (c : Dev nD) (V : (b : Ref sig .tc) → Buf (Elt F) ((c : Thread nD τ).loc b))

theorem ownSems0_chain : (Pipeline.ownSems0 (Ix := Unit) (Name := ℕ) (U := Pipeline.UD sig nD τ) (Lvl := ℕ) (Val := Elt F) (τ := τ) osem0 c : sProp 𝕄)
    = iprop(cellP c 0 0 ∗ cellP c 0 1 ∗ cellP c 1 0 ∗ cellP c 1 1 ∗ cellP c 2 0 ∗ cellP c 2 1 ∗ cellP c 3 0 ∗ cellP c 3 1 ∗ ccell0 c ∗ ccell1 c ∗ ccell2 c ∗ ccell3 c ∗ ccell4 c ∗ ccell5 c ∗ ccell6 c ∗ ccell7 c ∗ ccell8 c) := by
  rw [Pipeline.ownSems0_eq_of_list c osem0 [0, 1, 2, 3, 4, 5, 6, 7, 8, 9, 10, 11, 12, 13, 14, 15, 16] (by decide) (by decide)]; rfl
theorem hbmPts0_chain : (bigSep H0 fun b => ((c : Thread nD τ).loc b) ↦{fullShare} V b : sProp 𝕄)
    = iprop((((c : Thread nD τ).loc main_arg1) ↦{fullShare} V main_arg1) ∗ (((c : Thread nD τ).loc main_arg2) ↦{fullShare} V main_arg2) ∗ (((c : Thread nD τ).loc main_arg4) ↦{fullShare} V main_arg4) ∗ (((c : Thread nD τ).loc main_arg6) ↦{fullShare} V main_arg6) ∗ (((c : Thread nD τ).loc main_arg8) ↦{fullShare} V main_arg8) ∗ (((c : Thread nD τ).loc main_arg10) ↦{fullShare} V main_arg10) ∗ (((c : Thread nD τ).loc main_arg14) ↦{fullShare} V main_arg14) ∗ (((c : Thread nD τ).loc main_arg18) ↦{fullShare} V main_arg18) ∗ (((c : Thread nD τ).loc main_arg20) ↦{fullShare} V main_arg20) ∗ (((c : Thread nD τ).loc main_arg22) ↦{fullShare} V main_arg22) ∗ (((c : Thread nD τ).loc main_arg26) ↦{fullShare} V main_arg26)) := by
  rw [BI.bigSep_eq_bigSepL_of_eq [main_arg1, main_arg2, main_arg4, main_arg6, main_arg8, main_arg10, main_arg14, main_arg18, main_arg20, main_arg22, main_arg26] (by decide) (by decide)]; rfl

/-! ## The rings by slots, the stacks by blocks -/

abbrev J4 (s : Fin 4) : Finset S4x768x768.Idx := (Rect.unit (s := S4x768x768) (slotOff s) S1x768x768.size (slotOff_inb s)).set
abbrev G50 (b : Fin 50) : Finset S50x768x768.Idx := (Rect.unit (s := S50x768x768) (blkOff b) S1x768x768.size (blkOff_inb b)).set
theorem mem_J4 (s : Fin 4) (y : S4x768x768.Idx) : y ∈ J4 s ↔ (y 0).val = s.val := by
  rw [Rect.mem_set_unit]
  have h1 : (y 1).val < 768 := (y 1).isLt
  have h2 : (y 2).val < 768 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 768; omega
    · show 0 ≤ (y 2).val ∧ (y 2).val < 0 + 768; omega
theorem mem_G50 (s : Fin 50) (y : S50x768x768.Idx) : y ∈ G50 s ↔ (y 0).val = s.val := by
  rw [Rect.mem_set_unit]
  have h1 : (y 1).val < 768 := (y 1).isLt
  have h2 : (y 2).val < 768 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 768; omega
    · show 0 ≤ (y 2).val ∧ (y 2).val < 0 + 768; omega
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem J4_disjoint : ∀ s s' : Fin 4, s ≠ s' → Disjoint (J4 s) (J4 s') := by
  intro s s' hne; rw [Finset.disjoint_left]; intro y hy hy'; rw [mem_J4] at hy hy'; exact hne (Fin.ext (hy.symm.trans hy'))
theorem J4_cover : (Finset.univ : Finset (Fin 4)).biUnion J4 = Finset.univ := by
  ext y; simp only [Finset.mem_biUnion, Finset.mem_univ, true_and, iff_true]; exact ⟨(y 0).cast (by decide), by rw [mem_J4]; rfl⟩
theorem G50_disjoint : ∀ s s' : Fin 50, s ≠ s' → Disjoint (G50 s) (G50 s') := by
  intro s s' hne; rw [Finset.disjoint_left]; intro y hy hy'; rw [mem_G50] at hy hy'; exact hne (Fin.ext (hy.symm.trans hy'))
theorem G50_cover : (Finset.univ : Finset (Fin 50)).biUnion G50 = Finset.univ := by
  ext y; simp only [Finset.mem_biUnion, Finset.mem_univ, true_and, iff_true]; exact ⟨(y 0).cast (by decide), by rw [mem_G50]; rfl⟩

theorem slot1_set (s : Fin 4) : (slot1 s).view.set = J4 s := (View.set_reshape _ _).trans (View.set_slice_whole _ _)
theorem blk1_set (b : Fin 50) : (blk1 b).view.set = G50 b := (View.set_reshape _ _).trans (View.set_slice_whole _ _)
theorem slotP1_eq (s : Fin 4) (f) : slotP1 c s f = (((c : Thread nD τ).loc cc0_scratch3) ↦[J4 s]{fullShare} f : sProp 𝕄) :=
  congrArg (fun S => (_ ↦[S]{fullShare} f : sProp 𝕄)) (slot1_set s)
theorem ring1_split : iprop(∃ f : Buf (Elt F) ((c : Thread nD τ).loc cc0_scratch3), ((c : Thread nD τ).loc cc0_scratch3) ↦{fullShare} f)
    ⊢ (iprop((∃ f, slotP1 c 0 f) ∗ (∃ f, slotP1 c 1 f) ∗ (∃ f, slotP1 c 2 f) ∗ ∃ f, slotP1 c 3 f) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch3) J4 J4_disjoint J4_cover f).trans (bigSep_fin4 _))) $$ H
  icases H2 with ⟨H0, H1, H2, H3⟩
  isplitl [H0]
  · iexists f; iapply (Entails.of_eq (slotP1_eq c 0 f).symm); iexact H0
  isplitl [H1]
  · iexists f; iapply (Entails.of_eq (slotP1_eq c 1 f).symm); iexact H1
  isplitl [H2]
  · iexists f; iapply (Entails.of_eq (slotP1_eq c 2 f).symm); iexact H2
  · iexists f; iapply (Entails.of_eq (slotP1_eq c 3 f).symm); iexact H3
theorem ring1_join : (iprop((∃ f, slotP1 c 0 f) ∗ (∃ f, slotP1 c 1 f) ∗ (∃ f, slotP1 c 2 f) ∗ ∃ f, slotP1 c 3 f) : sProp 𝕄)
    ⊢ iprop(∃ f : Buf (Elt F) ((c : Thread nD τ).loc cc0_scratch3), ((c : Thread nD τ).loc cc0_scratch3) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch3) J4 J4_disjoint J4_cover f0)
  irw [bigSep_fin4]
  isplitl [H0]
  · iexists f0; iapply (Entails.of_eq (slotP1_eq c 0 f0)); iexact H0
  isplitl [H1]
  · iexists f1; iapply (Entails.of_eq (slotP1_eq c 1 f1)); iexact H1
  isplitl [H2]
  · iexists f2; iapply (Entails.of_eq (slotP1_eq c 2 f2)); iexact H2
  · iexists f3; iapply (Entails.of_eq (slotP1_eq c 3 f3)); iexact H3
theorem stack1_eq : (((c : Thread nD τ).loc main_arg18) ↦{fullShare} V main_arg18 : sProp 𝕄) = bigSep Finset.univ (homeP1 c (X1 c V)) := by
  rw [Ring.pointsTo_blocks (ℓ := (c : Thread nD τ).loc main_arg18) G50 G50_disjoint G50_cover]
  exact bigSep_congr fun b _ => by rw [← blk1_set]; rfl

theorem slot2_set (s : Fin 4) : (slot2 s).view.set = J4 s := (View.set_reshape _ _).trans (View.set_slice_whole _ _)
theorem blk2_set (b : Fin 50) : (blk2 b).view.set = G50 b := (View.set_reshape _ _).trans (View.set_slice_whole _ _)
theorem slotP2_eq (s : Fin 4) (f) : slotP2 c s f = (((c : Thread nD τ).loc cc0_scratch4) ↦[J4 s]{fullShare} f : sProp 𝕄) :=
  congrArg (fun S => (_ ↦[S]{fullShare} f : sProp 𝕄)) (slot2_set s)
theorem ring2_split : iprop(∃ f : Buf (Elt F) ((c : Thread nD τ).loc cc0_scratch4), ((c : Thread nD τ).loc cc0_scratch4) ↦{fullShare} f)
    ⊢ (iprop((∃ f, slotP2 c 0 f) ∗ (∃ f, slotP2 c 1 f) ∗ (∃ f, slotP2 c 2 f) ∗ ∃ f, slotP2 c 3 f) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch4) J4 J4_disjoint J4_cover f).trans (bigSep_fin4 _))) $$ H
  icases H2 with ⟨H0, H1, H2, H3⟩
  isplitl [H0]
  · iexists f; iapply (Entails.of_eq (slotP2_eq c 0 f).symm); iexact H0
  isplitl [H1]
  · iexists f; iapply (Entails.of_eq (slotP2_eq c 1 f).symm); iexact H1
  isplitl [H2]
  · iexists f; iapply (Entails.of_eq (slotP2_eq c 2 f).symm); iexact H2
  · iexists f; iapply (Entails.of_eq (slotP2_eq c 3 f).symm); iexact H3
theorem ring2_join : (iprop((∃ f, slotP2 c 0 f) ∗ (∃ f, slotP2 c 1 f) ∗ (∃ f, slotP2 c 2 f) ∗ ∃ f, slotP2 c 3 f) : sProp 𝕄)
    ⊢ iprop(∃ f : Buf (Elt F) ((c : Thread nD τ).loc cc0_scratch4), ((c : Thread nD τ).loc cc0_scratch4) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch4) J4 J4_disjoint J4_cover f0)
  irw [bigSep_fin4]
  isplitl [H0]
  · iexists f0; iapply (Entails.of_eq (slotP2_eq c 0 f0)); iexact H0
  isplitl [H1]
  · iexists f1; iapply (Entails.of_eq (slotP2_eq c 1 f1)); iexact H1
  isplitl [H2]
  · iexists f2; iapply (Entails.of_eq (slotP2_eq c 2 f2)); iexact H2
  · iexists f3; iapply (Entails.of_eq (slotP2_eq c 3 f3)); iexact H3
theorem stack2_eq : (((c : Thread nD τ).loc main_arg20) ↦{fullShare} V main_arg20 : sProp 𝕄) = bigSep Finset.univ (homeP2 c (X2 c V)) := by
  rw [Ring.pointsTo_blocks (ℓ := (c : Thread nD τ).loc main_arg20) G50 G50_disjoint G50_cover]
  exact bigSep_congr fun b _ => by rw [← blk2_set]; rfl

theorem homes_eq : bigSep Finset.univ (home c V) = iprop((((c : Thread nD τ).loc main_arg18) ↦{fullShare} V main_arg18) ∗ (((c : Thread nD τ).loc main_arg20) ↦{fullShare} V main_arg20)) := by
  rw [stack1_eq, stack2_eq]; exact bigSep_sep _ _ _
theorem whole_eq {sp s} (M : Memref sig .tc sp s .f32) (h : M.view.set = Finset.univ) (f : Buf (Elt F) (M.view.loc (c : Thread nD τ))) :
    bufP c M f = (M.view.loc (c : Thread nD τ) ↦{fullShare} f : sProp 𝕄) := congrArg (fun S => (_ ↦[S]{fullShare} f : sProp 𝕄)) h
/-- The fusion's first weight: the rows copied, and the others. -/
abbrev upper : sProp 𝕄 := hb7.view.loc (c : Thread nD τ) ↦[Finset.univ \ hb7s.view.set]{fullShare} (V main_arg22)
theorem fuse_split : (((c : Thread nD τ).loc main_arg22) ↦{fullShare} V main_arg22 : sProp 𝕄) ⊢ iprop(bufP c hb7s (XC7 c V) ∗ upper c V) :=
  (pointsTo_split_subset (Finset.subset_univ hb7s.view.set)).1
theorem fuse_join : iprop(bufP c hb7s (XC7 c V) ∗ upper c V) ⊢ (((c : Thread nD τ).loc main_arg22) ↦{fullShare} V main_arg22 : sProp 𝕄) :=
  (pointsTo_split_subset (Finset.subset_univ hb7s.view.set)).2

/-- What the body keeps at every step, besides the invariant. -/
def more : sProp 𝕄 := iprop((∃ r, prngReg c r) ∗ upper c V)

/-! ## Before the first step and after the last -/

theorem ring_start : ring c V 0 = iprop(bigSep Finset.univ (home c V) ∗ freeS c 0 ∗ freeS c 1 ∗ freeS c 2 ∗ freeS c 3) := by
  unfold ring; rw [slotU_free, slotU_free, slotU_free, slotU_free] <;> first | rfl | omega
theorem ring_end : ring c V 25 = iprop(bigSep Finset.univ (home c V) ∗ freeS c 2 ∗ freeS c 3 ∗ freeS c 0 ∗ freeS c 1) := by
  have e : homeSet 25 = Finset.univ := by decide
  unfold ring; rw [e, slotU_free, slotU_free, slotU_free, slotU_free] <;> first | rfl | omega

/-- The launch's resources are the invariant before the first step, and what is kept besides. -/
theorem inv_start (V : (c : Dev nD) → (b : Ref sig .tc) → Buf (Elt F) ((c : Thread nD τ).loc b)) :
    (Pipeline.ΦD osem0 spec0 H0 V c : sProp 𝕄) ⊢ iprop(inv c (V c) 0 ∗ more c (V c)) := by
  have e : inv c (V c) 0 = iprop((bigSep Finset.univ (home c (V c)) ∗ freeS c 0 ∗ freeS c 1 ∗ freeS c 2 ∗ freeS c 3) ∗ (∃ f, bufP c semM f) ∗ (∃ f, bufP c accM f) ∗ (∃ f, bufP c scM f) ∗ cfree0 c (V c) ∗ cfree1 c (V c) ∗ cfree2 c (V c) ∗ cfree3 c (V c) ∗ cfree4 c (V c) ∗ cfree5 c (V c) ∗ cfree6 c (V c) ∗ cfree7 c (V c) ∗ cfree8 c (V c)) := by
    unfold inv; rw [ring_start, semS_early c (V c) 0 (by decide), cst0_free c (V c) 0 (by decide), cst1_free c (V c) 0 (by decide), cst2_free c (V c) 0 (by decide), cst3_free c (V c) 0 (by decide), cst4_free c (V c) 0 (by decide), cst5_free c (V c) 0 (by decide), cst6_free c (V c) 0 (by decide), cst7_free c (V c) 0 (by decide), cst8_free c (V c) 0 (by decide)]; rfl
  rw [e, Pipeline.ΦD_eq, scopedRest0_eq, ownSems0_chain, hbmPts0_chain]
  unfold more
  iintro ⟨⟨S0, S1, S2, S3, S4, S6, S7, S8, S9, S10, S11, S12, S13, S14⟩, Hp, ⟨D00, D01, D10, D11, D20, D21, D30, D31, K0, K1, K2, K3, K4, K5, K6, K7, K8⟩, H1, H2, H4, H6, H8, H10, H14, H18, H20, H22, H26⟩
  ihave R1 := (ring1_split c) $$ S3
  icases R1 with ⟨A0, A1, A2, A3⟩
  ihave R2 := (ring2_split c) $$ S4
  icases R2 with ⟨B0, B1, B2, B3⟩
  ihave U := (fuse_split c (V c)) $$ H22
  icases U with ⟨U0, U1⟩
  isplitr [Hp U1]
  · isplitl [H18 H20 A0 B0 D00 D01 A1 B1 D10 D11 A2 B2 D20 D21 A3 B3 D30 D31]
    · isplitl [H18 H20]
      · iapply (Entails.of_eq (homes_eq c (V c)).symm)
        isplitl [H18]
        · iexact H18
        iexact H20
      isplitl [A0 B0 D00 D01]
      · unfold freeS
        isplitl [A0]
        · iexact A0
        isplitl [B0]
        · iexact B0
        isplitl [D00]
        · iexact D00
        iexact D01
      isplitl [A1 B1 D10 D11]
      · unfold freeS
        isplitl [A1]
        · iexact A1
        isplitl [B1]
        · iexact B1
        isplitl [D10]
        · iexact D10
        iexact D11
      isplitl [A2 B2 D20 D21]
      · unfold freeS
        isplitl [A2]
        · iexact A2
        isplitl [B2]
        · iexact B2
        isplitl [D20]
        · iexact D20
        iexact D21
      · unfold freeS
        isplitl [A3]
        · iexact A3
        isplitl [B3]
        · iexact B3
        isplitl [D30]
        · iexact D30
        iexact D31
    isplitl [S0]
    · icases S0 with ⟨%f, S0⟩
      iexists f; iapply (Entails.of_eq (whole_eq c semM (View.set_whole _) f).symm); iexact S0
    isplitl [S1]
    · icases S1 with ⟨%f, S1⟩
      iexists f; iapply (Entails.of_eq (whole_eq c accM (View.set_whole _) f).symm); iexact S1
    isplitl [S2]
    · icases S2 with ⟨%f, S2⟩
      iexists f; iapply (Entails.of_eq (whole_eq c scM (View.set_whole _) f).symm); iexact S2
    isplitl [K0 S6 H1]
    · unfold cfree0
      isplitl [K0]
      · iexact K0
      isplitl [S6]
      · icases S6 with ⟨%f, S6⟩
        iexists f; iapply (Entails.of_eq (whole_eq c cb0 (View.set_whole _) f).symm); iexact S6
      iapply (Entails.of_eq (whole_eq c hb0 (View.set_whole _) (XC0 c (V c))).symm); iexact H1
    isplitl [K1 S7 H2]
    · unfold cfree1
      isplitl [K1]
      · iexact K1
      isplitl [S7]
      · icases S7 with ⟨%f, S7⟩
        iexists f; iapply (Entails.of_eq (whole_eq c cb1 (View.set_whole _) f).symm); iexact S7
      iapply (Entails.of_eq (whole_eq c hb1 (View.set_whole _) (XC1 c (V c))).symm); iexact H2
    isplitl [K2 S8 H4]
    · unfold cfree2
      isplitl [K2]
      · iexact K2
      isplitl [S8]
      · icases S8 with ⟨%f, S8⟩
        iexists f; iapply (Entails.of_eq (whole_eq c cb2 (View.set_whole _) f).symm); iexact S8
      iapply (Entails.of_eq (whole_eq c hb2 (View.set_whole _) (XC2 c (V c))).symm); iexact H4
    isplitl [K3 S9 H6]
    · unfold cfree3
      isplitl [K3]
      · iexact K3
      isplitl [S9]
      · icases S9 with ⟨%f, S9⟩
        iexists f; iapply (Entails.of_eq (whole_eq c cb3 (View.set_whole _) f).symm); iexact S9
      iapply (Entails.of_eq (whole_eq c hb3 (View.set_whole _) (XC3 c (V c))).symm); iexact H6
    isplitl [K4 S10 H8]
    · unfold cfree4
      isplitl [K4]
      · iexact K4
      isplitl [S10]
      · icases S10 with ⟨%f, S10⟩
        iexists f; iapply (Entails.of_eq (whole_eq c cb4 (View.set_whole _) f).symm); iexact S10
      iapply (Entails.of_eq (whole_eq c hb4 (View.set_whole _) (XC4 c (V c))).symm); iexact H8
    isplitl [K5 S11 H10]
    · unfold cfree5
      isplitl [K5]
      · iexact K5
      isplitl [S11]
      · icases S11 with ⟨%f, S11⟩
        iexists f; iapply (Entails.of_eq (whole_eq c cb5 (View.set_whole _) f).symm); iexact S11
      iapply (Entails.of_eq (whole_eq c hb5 (View.set_whole _) (XC5 c (V c))).symm); iexact H10
    isplitl [K6 S12 H14]
    · unfold cfree6
      isplitl [K6]
      · iexact K6
      isplitl [S12]
      · icases S12 with ⟨%f, S12⟩
        iexists f; iapply (Entails.of_eq (whole_eq c cb6 (View.set_whole _) f).symm); iexact S12
      iapply (Entails.of_eq (whole_eq c hb6 (View.set_whole _) (XC6 c (V c))).symm); iexact H14
    isplitl [K7 S13 U0]
    · unfold cfree7
      isplitl [K7]
      · iexact K7
      isplitl [S13]
      · icases S13 with ⟨%f, S13⟩
        iexists f; iapply (Entails.of_eq (whole_eq c cb7 (View.set_whole _) f).symm); iexact S13
      iexact U0
    · unfold cfree8
      isplitl [K8]
      · iexact K8
      isplitl [S14]
      · icases S14 with ⟨%f, S14⟩
        iexists f; iapply (Entails.of_eq (whole_eq c cb8 (View.set_whole _) f).symm); iexact S14
      iapply (Entails.of_eq (whole_eq c hb8 (View.set_whole _) (XC8 c (V c))).symm); iexact H26
  isplitl [Hp]
  · iexact Hp
  iexact U1

/-- After the last step they come back. -/
theorem inv_end (V : (c : Dev nD) → (b : Ref sig .tc) → Buf (Elt F) ((c : Thread nD τ).loc b)) :
    iprop(inv c (V c) 25 ∗ more c (V c)) ⊢ (Pipeline.ΦD osem0 spec0 H0 V c : sProp 𝕄) := by
  have e : inv c (V c) 25 = iprop((bigSep Finset.univ (home c (V c)) ∗ freeS c 2 ∗ freeS c 3 ∗ freeS c 0 ∗ freeS c 1) ∗ (bufP c semM (semV c (V c))) ∗ (bufP c accM (accV c (V c) 24)) ∗ (bufP c scM (scV c (V c))) ∗ cdone0 c (V c) ∗ cdone1 c (V c) ∗ cdone2 c (V c) ∗ cdone3 c (V c) ∗ cdone4 c (V c) ∗ cdone5 c (V c) ∗ cdone6 c (V c) ∗ cdone7 c (V c) ∗ cdone8 c (V c)) := by
    unfold inv; rw [ring_end, semS_late c (V c) 25 (by decide), accS_pos c (V c) 25 (by decide), scS_pos c (V c) 25 (by decide), cst0_done c (V c) 25 (by decide), cst1_done c (V c) 25 (by decide), cst2_done c (V c) 25 (by decide), cst3_done c (V c) 25 (by decide), cst4_done c (V c) 25 (by decide), cst5_done c (V c) 25 (by decide), cst6_done c (V c) 25 (by decide), cst7_done c (V c) 25 (by decide), cst8_done c (V c) 25 (by decide)]
  rw [e, Pipeline.ΦD_eq, scopedRest0_eq, ownSems0_chain, hbmPts0_chain, homes_eq]
  unfold more freeS cdone0 cdone1 cdone2 cdone3 cdone4 cdone5 cdone6 cdone7 cdone8
  iintro ⟨⟨⟨⟨H18, H20⟩, ⟨A2, B2, D20, D21⟩, ⟨A3, B3, D30, D31⟩, ⟨A0, B0, D00, D01⟩, ⟨A1, B1, D10, D11⟩⟩, S0, S1, S2, ⟨K0, S6, H1⟩, ⟨K1, S7, H2⟩, ⟨K2, S8, H4⟩, ⟨K3, S9, H6⟩, ⟨K4, S10, H8⟩, ⟨K5, S11, H10⟩, ⟨K6, S12, H14⟩, ⟨K7, S13, U0⟩, ⟨K8, S14, H26⟩⟩, Hp, U1⟩
  ihave S3 := (ring1_join c) $$ [A0 A1 A2 A3]
  · isplitl [A0]
    · iexact A0
    isplitl [A1]
    · iexact A1
    isplitl [A2]
    · iexact A2
    iexact A3
  ihave S4 := (ring2_join c) $$ [B0 B1 B2 B3]
  · isplitl [B0]
    · iexact B0
    isplitl [B1]
    · iexact B1
    isplitl [B2]
    · iexact B2
    iexact B3
  ihave H22 := (fuse_join c (V c)) $$ [U0 U1]
  · isplitl [U0]
    · iexact U0
    iexact U1
  isplitl [S0 S1 S2 S3 S4 S6 S7 S8 S9 S10 S11 S12 S13 S14]
  · isplitl [S0]
    · iexists _; iapply (Entails.of_eq (whole_eq c semM (View.set_whole _) _)); iexact S0
    isplitl [S1]
    · iexists _; iapply (Entails.of_eq (whole_eq c accM (View.set_whole _) _)); iexact S1
    isplitl [S2]
    · iexists _; iapply (Entails.of_eq (whole_eq c scM (View.set_whole _) _)); iexact S2
    isplitl [S3]
    · iexact S3
    isplitl [S4]
    · iexact S4
    isplitl [S6]
    · iexists _; iapply (Entails.of_eq (whole_eq c cb0 (View.set_whole _) _)); iexact S6
    isplitl [S7]
    · iexists _; iapply (Entails.of_eq (whole_eq c cb1 (View.set_whole _) _)); iexact S7
    isplitl [S8]
    · iexists _; iapply (Entails.of_eq (whole_eq c cb2 (View.set_whole _) _)); iexact S8
    isplitl [S9]
    · iexists _; iapply (Entails.of_eq (whole_eq c cb3 (View.set_whole _) _)); iexact S9
    isplitl [S10]
    · iexists _; iapply (Entails.of_eq (whole_eq c cb4 (View.set_whole _) _)); iexact S10
    isplitl [S11]
    · iexists _; iapply (Entails.of_eq (whole_eq c cb5 (View.set_whole _) _)); iexact S11
    isplitl [S12]
    · iexists _; iapply (Entails.of_eq (whole_eq c cb6 (View.set_whole _) _)); iexact S12
    isplitl [S13]
    · iexists _; iapply (Entails.of_eq (whole_eq c cb7 (View.set_whole _) _)); iexact S13
    iexists _; iapply (Entails.of_eq (whole_eq c cb8 (View.set_whole _) _)); iexact S14
  isplitl [Hp]
  · iexact Hp
  isplitl [D00 D01 D10 D11 D20 D21 D30 D31 K0 K1 K2 K3 K4 K5 K6 K7 K8]
  · isplitl [D00]
    · iexact D00
    isplitl [D01]
    · iexact D01
    isplitl [D10]
    · iexact D10
    isplitl [D11]
    · iexact D11
    isplitl [D20]
    · iexact D20
    isplitl [D21]
    · iexact D21
    isplitl [D30]
    · iexact D30
    isplitl [D31]
    · iexact D31
    isplitl [K0]
    · iexact K0
    isplitl [K1]
    · iexact K1
    isplitl [K2]
    · iexact K2
    isplitl [K3]
    · iexact K3
    isplitl [K4]
    · iexact K4
    isplitl [K5]
    · iexact K5
    isplitl [K6]
    · iexact K6
    isplitl [K7]
    · iexact K7
    iexact K8
  isplitl [H1]
  · iapply (Entails.of_eq (whole_eq c hb0 (View.set_whole _) (XC0 c (V c)))); iexact H1
  isplitl [H2]
  · iapply (Entails.of_eq (whole_eq c hb1 (View.set_whole _) (XC1 c (V c)))); iexact H2
  isplitl [H4]
  · iapply (Entails.of_eq (whole_eq c hb2 (View.set_whole _) (XC2 c (V c)))); iexact H4
  isplitl [H6]
  · iapply (Entails.of_eq (whole_eq c hb3 (View.set_whole _) (XC3 c (V c)))); iexact H6
  isplitl [H8]
  · iapply (Entails.of_eq (whole_eq c hb4 (View.set_whole _) (XC4 c (V c)))); iexact H8
  isplitl [H10]
  · iapply (Entails.of_eq (whole_eq c hb5 (View.set_whole _) (XC5 c (V c)))); iexact H10
  isplitl [H14]
  · iapply (Entails.of_eq (whole_eq c hb6 (View.set_whole _) (XC6 c (V c)))); iexact H14
  isplitl [H18]
  · iexact H18
  isplitl [H20]
  · iexact H20
  isplitl [H22]
  · iexact H22
  iapply (Entails.of_eq (whole_eq c hb8 (View.set_whole _) (XC8 c (V c)))); iexact H26

end Ends

end Cert.KernelIdeal.Hand

end
-- ==== Proof.KI.Step0.lean ====
/-
  The body at the first step.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

/-- The grid's first point. -/
def i00 : grid0.Coords := grid0.coords ⟨0, by decide⟩
theorem i00_val : (i00 0).val = 0 := by decide +kernel
theorem slZ0 : sl (2 * (i00 0).val + 0) = 0 := by rw [i00_val]; decide
theorem bkZ0 : bk (2 * (i00 0).val + 0) = 0 := by rw [i00_val]; decide
theorem bkI0 : bk (2 * (i00 0).val + 0 + 4) = 4 := by rw [i00_val]; decide
@[sl_canon] theorem slot1Z0 : slot1 (sl (2 * (i00 0).val + 0)) = slot1 0 := by rw [slZ0]
@[sl_canon] theorem blk1Z0 : blk1 (bk (2 * (i00 0).val + 0)) = blk1 0 := by rw [bkZ0]
@[sl_canon] theorem blk1Y0 : blk1 (bk (2 * (i00 0).val + 0 + 4)) = blk1 4 := by rw [bkI0]
@[sl_canon] theorem cellZ0_1 : cell (sl (2 * (i00 0).val + 0)) 0 = cell 0 0 := by rw [slZ0]
@[sl_canon] theorem slot2Z0 : slot2 (sl (2 * (i00 0).val + 0)) = slot2 0 := by rw [slZ0]
@[sl_canon] theorem blk2Z0 : blk2 (bk (2 * (i00 0).val + 0)) = blk2 0 := by rw [bkZ0]
@[sl_canon] theorem blk2Y0 : blk2 (bk (2 * (i00 0).val + 0 + 4)) = blk2 4 := by rw [bkI0]
@[sl_canon] theorem cellZ0_2 : cell (sl (2 * (i00 0).val + 0)) 1 = cell 0 1 := by rw [slZ0]
theorem offZ2_0 : k0_off2 i00 0#32 = slotOff 0 := (off2_0 i00).trans (congrArg slotOff slZ0)
instance (priority := high) : ClosedOff (k0_off2 i00 (BitVec.ofNat 32 0)) := ⟨slotOff 0, offZ2_0⟩
theorem offZ7_0 : k0_off7 i00 0#32 = slotOff 0 := (off7_0 i00).trans (congrArg slotOff slZ0)
instance (priority := high) : ClosedOff (k0_off7 i00 (BitVec.ofNat 32 0)) := ⟨slotOff 0, offZ7_0⟩
theorem offZ9_0 : k0_off9 i00 0#32 = slotOff 0 := (off9_0 i00).trans (congrArg slotOff slZ0)
instance (priority := high) : ClosedOff (k0_off9 i00 (BitVec.ofNat 32 0)) := ⟨slotOff 0, offZ9_0⟩
theorem slZ1 : sl (2 * (i00 0).val + 1) = 1 := by rw [i00_val]; decide
theorem bkZ1 : bk (2 * (i00 0).val + 1) = 1 := by rw [i00_val]; decide
theorem bkI1 : bk (2 * (i00 0).val + 1 + 4) = 5 := by rw [i00_val]; decide
@[sl_canon] theorem slot1Z1 : slot1 (sl (2 * (i00 0).val + 1)) = slot1 1 := by rw [slZ1]
@[sl_canon] theorem blk1Z1 : blk1 (bk (2 * (i00 0).val + 1)) = blk1 1 := by rw [bkZ1]
@[sl_canon] theorem blk1Y1 : blk1 (bk (2 * (i00 0).val + 1 + 4)) = blk1 5 := by rw [bkI1]
@[sl_canon] theorem cellZ1_1 : cell (sl (2 * (i00 0).val + 1)) 0 = cell 1 0 := by rw [slZ1]
@[sl_canon] theorem slot2Z1 : slot2 (sl (2 * (i00 0).val + 1)) = slot2 1 := by rw [slZ1]
@[sl_canon] theorem blk2Z1 : blk2 (bk (2 * (i00 0).val + 1)) = blk2 1 := by rw [bkZ1]
@[sl_canon] theorem blk2Y1 : blk2 (bk (2 * (i00 0).val + 1 + 4)) = blk2 5 := by rw [bkI1]
@[sl_canon] theorem cellZ1_2 : cell (sl (2 * (i00 0).val + 1)) 1 = cell 1 1 := by rw [slZ1]
theorem offZ2_1 : k0_off2 i00 1#32 = slotOff 1 := (off2_1 i00).trans (congrArg slotOff slZ1)
instance (priority := high) : ClosedOff (k0_off2 i00 (BitVec.ofNat 32 1)) := ⟨slotOff 1, offZ2_1⟩
theorem offZ7_1 : k0_off7 i00 1#32 = slotOff 1 := (off7_1 i00).trans (congrArg slotOff slZ1)
instance (priority := high) : ClosedOff (k0_off7 i00 (BitVec.ofNat 32 1)) := ⟨slotOff 1, offZ7_1⟩
theorem offZ9_1 : k0_off9 i00 1#32 = slotOff 1 := (off9_1 i00).trans (congrArg slotOff slZ1)
instance (priority := high) : ClosedOff (k0_off9 i00 (BitVec.ofNat 32 1)) := ⟨slotOff 1, offZ9_1⟩

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 0. -/
theorem step0 : StepOk c i00 V xM hx pkM hpk swM hsw sbM hsb oM ho := by
  have hk := i00_val
  intro gx gpk gsw gsb go W rx rpk rsw rsb
  have n0 := (condEq i00 0 (by decide)).2 (by omega)
  have n1 := mt (condEq i00 1 (by decide)).1 (by omega)
  have n2 := mt (condEq i00 2 (by decide)).1 (by omega)
  have n3 := mt (condEq i00 3 (by decide)).1 (by omega)
  have n4 := mt (condEq i00 4 (by decide)).1 (by omega)
  have n5 := mt (condEq i00 5 (by decide)).1 (by omega)
  have n6 := mt (condEq i00 6 (by decide)).1 (by omega)
  have n7 := mt (condEq i00 7 (by decide)).1 (by omega)
  have hg := mt (condGt i00).1 (by omega)
  have h13 := (cond13 i00).2 (by omega)
  have h14 := mt (cond14 i00).1 (by omega)
  rw [i00_val]
  unfold inv
  rw [ring_zero c V, ring_one c V]
  rw [semS_early c V 0 (by omega), semS_early c V (0 + 1) (by omega), accS_pos c V (0 + 1) (by omega), scS_pos c V (0 + 1) (by omega)]
  rw [show accS c V 0 = iprop(∃ f, bufP c accM f) from if_pos rfl, show scS c V 0 = iprop(∃ f, bufP c scM f) from if_pos rfl]
  rw [cst0_free c V 0 (by omega), cst0_fly c V (0 + 1) (by omega) (by omega)]
  rw [cst1_keep c V 0 (by omega) (by omega)]
  rw [cst2_keep c V 0 (by omega) (by omega)]
  rw [cst3_keep c V 0 (by omega) (by omega)]
  rw [cst4_keep c V 0 (by omega) (by omega)]
  rw [cst5_keep c V 0 (by omega) (by omega)]
  rw [cst6_keep c V 0 (by omega) (by omega)]
  rw [cst7_keep c V 0 (by omega) (by omega)]
  rw [cst8_keep c V 0 (by omega) (by omega)]
  unfold flyAt home stage outS owesS freeS cfree0 cfly0
  iintro ⟨⟨⟨⟨⟨Hh10, Hh20⟩, ⟨Hh11, Hh21⟩, ⟨Hh12, Hh22⟩, ⟨Hh13, Hh23⟩, ⟨Hh14, Hh24⟩, ⟨Hh15, Hh25⟩, Hr⟩, ⟨⟨%f10, Hs10⟩, ⟨%f20, Hs20⟩, Hc10, Hc20⟩, ⟨⟨%f11, Hs11⟩, ⟨%f21, Hs21⟩, Hc11, Hc21⟩, ⟨⟨%f12, Hs12⟩, ⟨%f22, Hs22⟩, Hc12, Hc22⟩, ⟨⟨%f13, Hs13⟩, ⟨%f23, Hs23⟩, Hc13, Hc23⟩⟩, ⟨%gsem, Hsem⟩, ⟨%ga, Ha⟩, ⟨%gsc, Hsc⟩, ⟨Hcc0, ⟨%fc0, Hcb0⟩, Hch0⟩, Hk1, Hk2, Hk3, Hk4, Hk5, Hk6, Hk7, Hk8⟩, ⟨Hx, Hpk, Hsw, Hsb⟩, Ho, HW⟩
  dsimp only [bodyG]
  sl_unfold [cc0__body]
  sl_exec
  sl_step
  have hsc := sc_eq c V _ _ _ (ld_whole c xM gx _ rx inb_S1x768_S1x768_0_0) (ld_row c pkM gpk _ rpk inb_S9x1536_S1x50_8_0) (ld_whole c swM gsw _ rsw inb_S768x50_S768x50_0_0)
  have hcon := con_eq c i00 V _ _ _ _ _ _ _ _ _ _ (ld_whole c xM gx _ rx inb_S1x768_S1x768_0_0) (ld_sc c scM.view.junk _ _ hsc)
      (ld_row c sbM gsb _ rsb (k0_off5_inb i00 0)) (ld_row c sbM gsb _ rsb (k0_off6_inb i00 0)) ((ld_slot1 c V 0 0 (slot1 0).view.junk _ (k0_off7_inb i00 0) offZ7_0).trans (congrArg (wb1 c V) bkZ0.symm)) ((ld_slot2 c V 0 0 (slot2 0).view.junk _ (k0_off7_inb i00 0) offZ7_0).trans (congrArg (wb2 c V) bkZ0.symm))
      (ld_row c sbM gsb _ rsb (k0_off5_inb i00 1)) (ld_row c sbM gsb _ rsb (k0_off6_inb i00 1)) ((ld_slot1 c V 1 1 (slot1 1).view.junk _ (k0_off7_inb i00 1) offZ7_1).trans (congrArg (wb1 c V) bkZ1.symm)) ((ld_slot2 c V 1 1 (slot2 1).view.junk _ (k0_off7_inb i00 1) offZ7_1).trans (congrArg (wb2 c V) bkZ1.symm))
  have hacc : step0.sl.v140 c V xM pkM swM sbM gx gpk gsw gsb = accV c V 0 := congrArg (fun v => shapeCast S1x768 v shapeCasts_S1x768_S1x768) hcon
  isplitl [Hh10 Hh20 Hh11 Hh21 Hr Hc12 Hc22 Hc13 Hc23 Hc10 Hc20 Hc11 Hc21 Hsem Ha Hsc Hcc0 Hk1 Hk2 Hk3 Hk4 Hk5 Hk6 Hk7 Hk8]
  · isplitl [Hh10 Hh20 Hh11 Hh21 Hr Hc12 Hc22 Hc13 Hc23 Hc10 Hc20 Hc11 Hc21]
    · isplitl [Hh10 Hh20 Hh11 Hh21 Hr]
      · isplitl [Hh10 Hh20]
        · isplitl [Hh10]
          · iexact Hh10
          iexact Hh20
        isplitl [Hh11 Hh21]
        · isplitl [Hh11]
          · iexact Hh11
          iexact Hh21
        iexact Hr
      isplitl [Hc12 Hc22]
      · isplitl [Hc12]
        · iexists f12; iexact Hc12
        iexists f22; iexact Hc22
      isplitl [Hc13 Hc23]
      · isplitl [Hc13]
        · iexists f13; iexact Hc13
        iexists f23; iexact Hc23
      isplitl [Hc10 Hc20]
      · isplitl [Hc10]
        · iapply (flight1_again c V 0 0 4); iexact Hc10
        iapply (flight2_again c V 0 0 4); iexact Hc20
      isplitl [Hc11]
      · iapply (flight1_again c V 1 1 5); iexact Hc11
      iapply (flight2_again c V 1 1 5); iexact Hc21
    isplitl [Hsem]
    · iexists _; iexact Hsem
    isplitl [Ha]
    · iapply (pt_of_eq c accM ((whole_write cc0_scratch1 ga inb_S1x768_S1x768_0_0 _).trans hacc)); iexact Ha
    isplitl [Hsc]
    · iapply (pt_of_eq c scM ((whole_write cc0_scratch2 gsc inb_S1x50_S1x50_0_0 _).trans hsc)); iexact Hsc
    isplitl [Hcc0]
    · iexists fc0; iexact Hcc0
    isplitl [Hk1]
    · iexact Hk1
    isplitl [Hk2]
    · iexact Hk2
    isplitl [Hk3]
    · iexact Hk3
    isplitl [Hk4]
    · iexact Hk4
    isplitl [Hk5]
    · iexact Hk5
    isplitl [Hk6]
    · iexact Hk6
    isplitl [Hk7]
    · iexact Hk7
    iexact Hk8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exact absurd h (by decide)
    iexact Ho
  iexists _; iexact HW

end Body

end Cert.KernelIdeal.Hand

end
-- ==== Proof.KI.Step1.lean ====
/-
  The body at a step 1.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 1. -/
theorem step1 (hi : ∀ h, grid0.coords ⟨(i 0).val, h⟩ = i) (hk : (i 0).val = 1) :
    StepOk c i V xM hx pkM hpk swM hsw sbM hsb oM ho := by
  intro gx gpk gsw gsb go W rx rpk rsw rsb
  have n0 := mt (condEq i 0 (by decide)).1 (by omega)
  have n1 := (condEq i 1 (by decide)).2 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_free c V (i 0).val (by omega), cst1_fly c V ((i 0).val+1) (by omega) (by omega)]
  rw [cst2_free c V (i 0).val (by omega), cst2_fly c V ((i 0).val+1) (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold cfree1 cfly1
  unfold cfree2 cfly2
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, ⟨Hcc1, ⟨%fc1, Hcb1⟩, Hch1⟩, ⟨Hcc2, ⟨%fc2, Hcb2⟩, Hch2⟩, Hc3, Hc4, Hc5, Hc6, Hc7, Hc8⟩, ⟨Hx, Hpk, Hsw, Hsb⟩, Ho, HW⟩
  dsimp only [bodyG]
  sl_unfold [cc0__body]
  sl_exec
  sl_step
  have hcon : step1.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step1.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hcc1 Hcc2 Hc3 Hc4 Hc5 Hc6 Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hcc1]
    · iexists fc1; iexact Hcc1
    isplitl [Hcc2]
    · iexists fc2; iexact Hcc2
    isplitl [Hc3]
    · iexact Hc3
    isplitl [Hc4]
    · iexact Hc4
    isplitl [Hc5]
    · iexact Hc5
    isplitl [Hc6]
    · iexact Hc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step2.lean ====
/-
  The body at a step 2.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 2. -/
theorem step2 (hi : ∀ h, grid0.coords ⟨(i 0).val, h⟩ = i) (hk : (i 0).val = 2) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := (condEq i 2 (by decide)).2 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_keep c V (i 0).val (by omega) (by omega)]
  rw [cst2_keep c V (i 0).val (by omega) (by omega)]
  rw [cst3_free c V (i 0).val (by omega), cst3_fly c V ((i 0).val+1) (by omega) (by omega)]
  rw [cst4_free c V (i 0).val (by omega), cst4_fly c V ((i 0).val+1) (by omega) (by omega)]
  rw [cst5_keep c V (i 0).val (by omega) (by omega)]
  rw [cst6_keep c V (i 0).val (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold cfree3 cfly3
  unfold cfree4 cfly4
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, Hc1, Hc2, ⟨Hcc3, ⟨%fc3, Hcb3⟩, Hch3⟩, ⟨Hcc4, ⟨%fc4, Hcb4⟩, Hch4⟩, Hc5, Hc6, Hc7, Hc8⟩, ⟨Hx, Hpk, Hsw, Hsb⟩, Ho, HW⟩
  dsimp only [bodyG]
  sl_unfold [cc0__body]
  sl_exec
  sl_step
  have hcon : step2.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step2.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hcc3 Hcc4 Hc5 Hc6 Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hcc3]
    · iexists fc3; iexact Hcc3
    isplitl [Hcc4]
    · iexists fc4; iexact Hcc4
    isplitl [Hc5]
    · iexact Hc5
    isplitl [Hc6]
    · iexact Hc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step3.lean ====
/-
  The body at a step 3.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 3. -/
theorem step3 (hi : ∀ h, grid0.coords ⟨(i 0).val, h⟩ = i) (hk : (i 0).val = 3) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := (condEq i 3 (by decide)).2 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_free c V (i 0).val (by omega), cst5_fly c V ((i 0).val+1) (by omega) (by omega)]
  rw [cst6_keep c V (i 0).val (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold cfree5 cfly5
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, Hc1, Hc2, Hc3, Hc4, ⟨Hcc5, ⟨%fc5, Hcb5⟩, Hch5⟩, Hc6, Hc7, Hc8⟩, ⟨Hx, Hpk, Hsw, Hsb⟩, Ho, HW⟩
  dsimp only [bodyG]
  sl_unfold [cc0__body]
  sl_exec
  sl_step
  have hcon : step3.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step3.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hc3 Hc4 Hcc5 Hc6 Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hcc5]
    · iexists fc5; iexact Hcc5
    isplitl [Hc6]
    · iexact Hc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step4.lean ====
/-
  The body at a step 4.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 4. -/
theorem step4 (hi : ∀ h, grid0.coords ⟨(i 0).val, h⟩ = i) (hk : (i 0).val = 4) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := (condEq i 4 (by decide)).2 (by omega)
  have n5 := mt (condEq i 5 (by decide)).1 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_free c V (i 0).val (by omega), cst6_fly c V ((i 0).val+1) (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold cfree6 cfly6
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, Hc1, Hc2, Hc3, Hc4, Hc5, ⟨Hcc6, ⟨%fc6, Hcb6⟩, Hch6⟩, Hc7, Hc8⟩, ⟨Hx, Hpk, Hsw, Hsb⟩, Ho, HW⟩
  dsimp only [bodyG]
  sl_unfold [cc0__body]
  sl_exec
  sl_step
  have hcon : step4.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step4.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hc3 Hc4 Hc5 Hcc6 Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hcc6]
    · iexists fc6; iexact Hcc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step5.lean ====
/-
  The body at a step 5.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 5. -/
theorem step5 (hi : ∀ h, grid0.coords ⟨(i 0).val, h⟩ = i) (hk : (i 0).val = 5) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := (condEq i 5 (by decide)).2 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_free c V (i 0).val (by omega), cst7_fly c V ((i 0).val+1) (by omega) (by omega)]
  rw [cst8_keep c V (i 0).val (by omega) (by omega)]
  unfold fly
  rw [sl_add (2 * (i 0).val + 0), sl_add (2 * (i 0).val + 1)]
  unfold flyAt home stage outS owesS
  unfold cfree7 cfly7
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, Hc1, Hc2, Hc3, Hc4, Hc5, Hc6, ⟨Hcc7, ⟨%fc7, Hcb7⟩, Hch7⟩, Hc8⟩, ⟨Hx, Hpk, Hsw, Hsb⟩, Ho, HW⟩
  dsimp only [bodyG]
  sl_unfold [cc0__body]
  sl_exec
  sl_step
  have hcon : step5.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step5.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hc3 Hc4 Hc5 Hc6 Hcc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hc6]
    · iexact Hc6
    isplitl [Hcc7]
    · iexists fc7; iexact Hcc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step6.lean ====
/-
  The body at a step 6.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 6. -/
theorem step6 (hi : ∀ h, grid0.coords ⟨(i 0).val, h⟩ = i) (hk : (i 0).val = 6) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := (condEq i 6 (by decide)).2 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_early c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_keep c V (i 0).val (by omega) (by omega)]
  rw [cst8_free c V (i 0).val (by omega), cst8_fly c V ((i 0).val+1) (by omega) (by omega)]
  unfold fly
  rw [sl_add (2 * (i 0).val + 0), sl_add (2 * (i 0).val + 1)]
  unfold flyAt home stage outS owesS
  unfold cfree8 cfly8
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, Hc0, Hc1, Hc2, Hc3, Hc4, Hc5, Hc6, Hc7, ⟨Hcc8, ⟨%fc8, Hcb8⟩, Hch8⟩⟩, ⟨Hx, Hpk, Hsw, Hsb⟩, Ho, HW⟩
  dsimp only [bodyG]
  sl_unfold [cc0__body]
  sl_exec
  sl_step
  have hcon : step6.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step6.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hc3 Hc4 Hc5 Hc6 Hc7 Hcc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexists _; iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hc6]
    · iexact Hc6
    isplitl [Hc7]
    · iexact Hc7
    iexists fc8; iexact Hcc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step7.lean ====
/-
  The body at a step 7.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 7. -/
theorem step7 (hi : ∀ h, grid0.coords ⟨(i 0).val, h⟩ = i) (hk : (i 0).val = 7) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := (condEq i 7 (by decide)).2 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_early c V (i 0).val (by omega), semS_late c V ((i 0).val+1) (by omega)]
  rw [cst0_fly c V (i 0).val (by omega) (by omega), cst0_done c V ((i 0).val+1) (by omega)]
  rw [cst1_fly c V (i 0).val (by omega) (by omega), cst1_done c V ((i 0).val+1) (by omega)]
  rw [cst2_fly c V (i 0).val (by omega) (by omega), cst2_done c V ((i 0).val+1) (by omega)]
  rw [cst3_fly c V (i 0).val (by omega) (by omega), cst3_done c V ((i 0).val+1) (by omega)]
  rw [cst4_fly c V (i 0).val (by omega) (by omega), cst4_done c V ((i 0).val+1) (by omega)]
  rw [cst5_fly c V (i 0).val (by omega) (by omega), cst5_done c V ((i 0).val+1) (by omega)]
  rw [cst6_fly c V (i 0).val (by omega) (by omega), cst6_done c V ((i 0).val+1) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold cfly0 cdone0
  unfold cfly1 cdone1
  unfold cfly2 cdone2
  unfold cfly3 cdone3
  unfold cfly4 cdone4
  unfold cfly5 cdone5
  unfold cfly6 cdone6
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, ⟨%gsem, Hsem⟩, Ha, Hsc, ⟨%fc0, Hcf0⟩, ⟨%fc1, Hcf1⟩, ⟨%fc2, Hcf2⟩, ⟨%fc3, Hcf3⟩, ⟨%fc4, Hcf4⟩, ⟨%fc5, Hcf5⟩, ⟨%fc6, Hcf6⟩, Hc7, Hc8⟩, ⟨Hx, Hpk, Hsw, Hsb⟩, Ho, HW⟩
  dsimp only [bodyG]
  sl_unfold [cc0__body]
  sl_exec
  sl_step
  have hcon : step7.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step7.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hcf0 Hcf0_dst Hcf0_src Hcf1 Hcf1_dst Hcf1_src Hcf2 Hcf2_dst Hcf2_src Hcf3 Hcf3_dst Hcf3_src Hcf4 Hcf4_dst Hcf4_src Hcf5 Hcf5_dst Hcf5_src Hcf6 Hcf6_dst Hcf6_src Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iapply (pt_of_eq c semM ((whole_write cc0_scratch0 gsem inb_S1x768_S1x768_0_0 _).trans (sem_eq c V _ _ _ _ _ _ _ _ _ _ _ _ _ _ _ _ (ld_whole c xM gx _ rx inb_S1x768_S1x768_0_0) (ld_row c pkM gpk _ rpk inb_S9x1536_S1x768_0_0) (ld_row c pkM gpk _ rpk inb_S9x1536_S1x768_0_768) (ld_row c pkM gpk _ rpk inb_S9x1536_S1x768_1_0) (ld_row c pkM gpk _ rpk inb_S9x1536_S1x768_1_768) (ldc1 c V cb1.view.junk) (ldc2 c V cb2.view.junk) (ldc0 c V cb0.view.junk) (ldc0 c V cb0.view.junk) (ldc3 c V cb3.view.junk) (ldc4 c V cb4.view.junk) (ld_row c pkM gpk _ rpk inb_S9x1536_S1x1536_2_0) (ld_row c pkM gpk _ rpk inb_S9x1536_S1x1536_3_0) (ld_row c pkM gpk _ rpk inb_S9x1536_S1x1536_4_0) (ldc5 c V cb5.view.junk) (ldc6 c V cb6.view.junk)))); iexact Hsem
    isplitl [Ha]
    · iapply (pt_of_eq c accM hacc); iexact Ha
    isplitl [Hsc]
    · iexact Hsc
    isplitl [Hcf0 Hcf0_dst Hcf0_src]
    · isplitl [Hcf0]
      · iexact Hcf0
      isplitl [Hcf0_dst]
      · iapply (pt_of_eq c cb0 (clanded0_eq c V fc0)); iexact Hcf0_dst
      iexact Hcf0_src
    isplitl [Hcf1 Hcf1_dst Hcf1_src]
    · isplitl [Hcf1]
      · iexact Hcf1
      isplitl [Hcf1_dst]
      · iapply (pt_of_eq c cb1 (clanded1_eq c V fc1)); iexact Hcf1_dst
      iexact Hcf1_src
    isplitl [Hcf2 Hcf2_dst Hcf2_src]
    · isplitl [Hcf2]
      · iexact Hcf2
      isplitl [Hcf2_dst]
      · iapply (pt_of_eq c cb2 (clanded2_eq c V fc2)); iexact Hcf2_dst
      iexact Hcf2_src
    isplitl [Hcf3 Hcf3_dst Hcf3_src]
    · isplitl [Hcf3]
      · iexact Hcf3
      isplitl [Hcf3_dst]
      · iapply (pt_of_eq c cb3 (clanded3_eq c V fc3)); iexact Hcf3_dst
      iexact Hcf3_src
    isplitl [Hcf4 Hcf4_dst Hcf4_src]
    · isplitl [Hcf4]
      · iexact Hcf4
      isplitl [Hcf4_dst]
      · iapply (pt_of_eq c cb4 (clanded4_eq c V fc4)); iexact Hcf4_dst
      iexact Hcf4_src
    isplitl [Hcf5 Hcf5_dst Hcf5_src]
    · isplitl [Hcf5]
      · iexact Hcf5
      isplitl [Hcf5_dst]
      · iapply (pt_of_eq c cb5 (clanded5_eq c V fc5)); iexact Hcf5_dst
      iexact Hcf5_src
    isplitl [Hcf6 Hcf6_dst Hcf6_src]
    · isplitl [Hcf6]
      · iexact Hcf6
      isplitl [Hcf6_dst]
      · iapply (pt_of_eq c cb6 (clanded6_eq c V fc6)); iexact Hcf6_dst
      iexact Hcf6_src
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.StepMid.lean ====
/-
  The body at a step in the grid's middle.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 8 to 22. -/
theorem stepMid (hi : ∀ h, grid0.coords ⟨(i 0).val, h⟩ = i) (h8 : 8 ≤ (i 0).val) (h23 : (i 0).val < 23) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := (cond13 i).2 (by omega)
  have h14 := mt (cond14 i).1 (by omega)
  unfold inv
  rw [ring_next]
  unfold ring
  rw [homes_here (i 0).val (by omega) (by omega), homes_next (i 0).val (by omega) (by omega)]
  rw [slotU_fly c V _ (2 * (i 0).val + 0) (by omega) (by omega), slotU_fly c V _ (2 * (i 0).val + 1) (by omega) (by omega)]
  rw [slotU_fly c V _ (2 * (i 0).val + 0 + 4) (by omega) (by omega), slotU_fly c V _ (2 * (i 0).val + 1 + 4) (by omega) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_late c V (i 0).val (by omega), semS_late c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  iintro ⟨⟨⟨⟨⟨Hh10, Hh20⟩, ⟨Hh11, Hh21⟩, Hr⟩, ⟨⟨%f10, HF10⟩, ⟨%f20, HF20⟩⟩, ⟨⟨%f11, HF11⟩, ⟨%f21, HF21⟩⟩, Hu2, Hu3⟩, Hsem, Ha, Hsc, Hc0, Hc1, Hc2, Hc3, Hc4, Hc5, Hc6, Hc7, Hc8⟩, ⟨Hx, Hpk, Hsw, Hsb⟩, Ho, HW⟩
  dsimp only [bodyG]
  sl_unfold [cc0__body]
  sl_exec
  sl_step
  have hcon : stepMid.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (stepMid.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10 HF20 HF11 HF21 Hsem Ha Hsc Hc0 Hc1 Hc2 Hc3 Hc4 Hc5 Hc6 Hc7 Hc8]
  · isplitl [HF10_src HF20_src HF11_src HF21_src Hr Hu2 Hu3 HF10 HF20 HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10 HF20]
      · isplitl [HF10]
        · iapply (flight1_again c V (sl (2 * (i 0).val + 0)) (bk (2 * (i 0).val + 0)) (bk (2 * (i 0).val + 0 + 4))); iexact HF10
        iapply (flight2_again c V (sl (2 * (i 0).val + 0)) (bk (2 * (i 0).val + 0)) (bk (2 * (i 0).val + 0 + 4))); iexact HF20
      isplitl [HF11]
      · iapply (flight1_again c V (sl (2 * (i 0).val + 1)) (bk (2 * (i 0).val + 1)) (bk (2 * (i 0).val + 1 + 4))); iexact HF11
      iapply (flight2_again c V (sl (2 * (i 0).val + 1)) (bk (2 * (i 0).val + 1)) (bk (2 * (i 0).val + 1 + 4))); iexact HF21
    isplitl [Hsem]
    · iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hc6]
    · iexact Hc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step23.lean ====
/-
  The body at a step 23.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 23. -/
theorem step23 (hi : ∀ h, grid0.coords ⟨(i 0).val, h⟩ = i) (hk : (i 0).val = 23) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := mt (cond13 i).1 (by omega)
  have h14 := mt (cond14 i).1 (by omega)
  unfold inv
  rw [ring_next]
  unfold ring
  rw [homes_last (i 0).val (by omega) (by omega)]
  rw [slotU_fly c V _ (2 * (i 0).val + 0) (by omega) (by omega), slotU_fly c V _ (2 * (i 0).val + 1) (by omega) (by omega)]
  rw [slotU_free c V _ (2 * (i 0).val + 0 + 4) (by omega), slotU_free c V _ (2 * (i 0).val + 1 + 4) (by omega)]
  rw [slotU_fly c V (i 0).val (2 * (i 0).val + 0 + 2) (by omega) (by omega), slotU_fly c V (i 0).val (2 * (i 0).val + 1 + 2) (by omega) (by omega), slotU_fly c V ((i 0).val+1) (2 * (i 0).val + 0 + 2) (by omega) (by omega), slotU_fly c V ((i 0).val+1) (2 * (i 0).val + 1 + 2) (by omega) (by omega)]
  rw [accS_pos c V _ (by omega), accS_pos c V ((i 0).val+1) (by omega), scS_pos c V (i 0).val (by omega), scS_pos c V ((i 0).val+1) (by omega)]
  rw [semS_late c V (i 0).val (by omega), semS_late c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_keep c V (i 0).val (by omega) (by omega)]
  rw [cst8_keep c V (i 0).val (by omega) (by omega)]
  unfold fly
  rw [sl_add (2 * (i 0).val + 0), sl_add (2 * (i 0).val + 1)]
  unfold flyAt home stage outS owesS
  unfold freeS
  iintro ⟨⟨⟨Hr, ⟨⟨%f10, HF10⟩, ⟨%f20, HF20⟩⟩, ⟨⟨%f11, HF11⟩, ⟨%f21, HF21⟩⟩, Hu2, Hu3⟩, Hsem, Ha, Hsc, Hc0, Hc1, Hc2, Hc3, Hc4, Hc5, Hc6, Hc7, Hc8⟩, ⟨Hx, Hpk, Hsw, Hsb⟩, Ho, HW⟩
  dsimp only [bodyG]
  sl_unfold [cc0__body]
  sl_exec
  sl_step
  have hcon : step23.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step23.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  isplitl [HF10_src HF20_src HF11_src HF21_src Hr Hu2 Hu3 HF10_dst HF20_dst HF10 HF20 HF11_dst HF21_dst HF11 HF21 Hsem Ha Hsc Hc0 Hc1 Hc2 Hc3 Hc4 Hc5 Hc6 Hc7 Hc8]
  · isplitl [HF10_src HF20_src HF11_src HF21_src Hr Hu2 Hu3 HF10_dst HF20_dst HF10 HF20 HF11_dst HF21_dst HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10_dst HF20_dst HF10 HF20]
      · isplitl [HF10_dst]
        · iexists _; iexact HF10_dst
        isplitl [HF20_dst]
        · iexists _; iexact HF20_dst
        isplitl [HF10]
        · iexact HF10
        iexact HF20
      isplitl [HF11_dst]
      · iexists _; iexact HF11_dst
      isplitl [HF21_dst]
      · iexists _; iexact HF21_dst
      isplitl [HF11]
      · iexact HF11
      iexact HF21
    isplitl [Hsem]
    · iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hc6]
    · iexact Hc6
    isplitl [Hc7]
    · iexact Hc7
    iexact Hc8
  isplitl [Hx Hpk Hsw Hsb]
  · isplitl [Hx]
    · iexact Hx
    isplitl [Hpk]
    · iexact Hpk
    isplitl [Hsw]
    · iexact Hsw
    iexact Hsb
  isplitl [Ho]
  · iexists go; isplitr; · ipureintro; intro h; exfalso; omega
    iexact Ho
  iexists _; iexact HW

end Body

end Cert.KernelIdeal.Hand

end
-- ==== Proof.KI.Step24.lean ====
/-
  The body at a step 24.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

section Body
variable (c : Dev nD) (i : grid0.Coords) (V : (b : Ref sig .tc) → Buf (Elt F) ((c : Thread nD τ).loc b))
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

set_option maxHeartbeats 4000000 in
/-- A step: 24. -/
theorem step24 (hi : ∀ h, grid0.coords ⟨(i 0).val, h⟩ = i) (hk : (i 0).val = 24) :
    StepOk c i V xM hx pkM hpk swM hsw sbM hsb oM ho := by
  intro gx gpk gsw gsb go W rx rpk rsw rsb
  have n0 := mt (condEq i 0 (by decide)).1 (by omega)
  have n1 := mt (condEq i 1 (by decide)).1 (by omega)
  have n2 := mt (condEq i 2 (by decide)).1 (by omega)
  have n3 := mt (condEq i 3 (by decide)).1 (by omega)
  have n4 := mt (condEq i 4 (by decide)).1 (by omega)
  have n5 := mt (condEq i 5 (by decide)).1 (by omega)
  have n6 := mt (condEq i 6 (by decide)).1 (by omega)
  have n7 := mt (condEq i 7 (by decide)).1 (by omega)
  have hg := (condGt i).2 (by omega)
  have h13 := mt (cond13 i).1 (by omega)
  have h14 := (cond14 i).2 (by omega)
  unfold inv
  rw [ring_next]
  unfold ring
  rw [homes_last (i 0).val (by omega) (by omega)]
  rw [slotU_fly c V _ (2 * (i 0).val + 0) (by omega) (by omega), slotU_fly c V _ (2 * (i 0).val + 1) (by omega) (by omega)]
  rw [slotU_free c V _ (2 * (i 0).val + 0 + 4) (by omega), slotU_free c V _ (2 * (i 0).val + 1 + 4) (by omega)]
  rw [slotU_free c V _ (2 * (i 0).val + 0 + 2) (by omega), slotU_free c V _ (2 * (i 0).val + 1 + 2) (by omega), slotU_free c V ((i 0).val+1) (2 * (i 0).val + 0 + 2) (by omega), slotU_free c V ((i 0).val+1) (2 * (i 0).val + 1 + 2) (by omega)]
  rw [accS_pos c V _ (by omega), accS_pos c V ((i 0).val+1) (by omega), scS_pos c V (i 0).val (by omega), scS_pos c V ((i 0).val+1) (by omega)]
  rw [semS_late c V (i 0).val (by omega), semS_late c V ((i 0).val+1) (by omega)]
  rw [cst0_keep c V (i 0).val (by omega) (by omega)]
  rw [cst1_keep c V (i 0).val (by omega) (by omega)]
  rw [cst2_keep c V (i 0).val (by omega) (by omega)]
  rw [cst3_keep c V (i 0).val (by omega) (by omega)]
  rw [cst4_keep c V (i 0).val (by omega) (by omega)]
  rw [cst5_keep c V (i 0).val (by omega) (by omega)]
  rw [cst6_keep c V (i 0).val (by omega) (by omega)]
  rw [cst7_fly c V (i 0).val (by omega) (by omega), cst7_done c V ((i 0).val+1) (by omega)]
  rw [cst8_fly c V (i 0).val (by omega) (by omega), cst8_done c V ((i 0).val+1) (by omega)]
  unfold fly
  rw [sl_add (2 * (i 0).val + 0), sl_add (2 * (i 0).val + 1)]
  unfold flyAt home stage outS owesS
  unfold freeS
  unfold cfly7 cdone7
  unfold cfly8 cdone8
  iintro ⟨⟨⟨Hr, ⟨⟨%f10, HF10⟩, ⟨%f20, HF20⟩⟩, ⟨⟨%f11, HF11⟩, ⟨%f21, HF21⟩⟩, Hu2, Hu3⟩, Hsem, Ha, Hsc, Hc0, Hc1, Hc2, Hc3, Hc4, Hc5, Hc6, ⟨%fc7, Hcf7⟩, ⟨%fc8, Hcf8⟩⟩, ⟨Hx, Hpk, Hsw, Hsb⟩, Ho, HW⟩
  dsimp only [bodyG]
  sl_unfold [cc0__body]
  sl_exec
  sl_step
  have hcon : step24.sl.v123 c i V xM sbM gx gsb = conV c V i :=
    con_eq c i V _ _ _ _ _ _ _ _ _ _ (ld_whole c xM gx _ rx inb_S1x768_S1x768_0_0) (ld_whole c scM (scV c V) _ rfl inb_S1x50_S1x50_0_0)
      (ld_row c sbM gsb _ rsb (k0_off5_inb i 0)) (ld_row c sbM gsb _ rsb (k0_off6_inb i 0)) (ld_slot1 c V (sl (2 * (i 0).val + 0)) (bk (2 * (i 0).val + 0)) (slot1 (sl (2 * (i 0).val + 0))).view.junk _ (k0_off7_inb i 0) (off7_0 i)) (ld_slot2 c V (sl (2 * (i 0).val + 0)) (bk (2 * (i 0).val + 0)) (slot2 (sl (2 * (i 0).val + 0))).view.junk _ (k0_off7_inb i 0) (off7_0 i))
      (ld_row c sbM gsb _ rsb (k0_off5_inb i 1)) (ld_row c sbM gsb _ rsb (k0_off6_inb i 1)) (ld_slot1 c V (sl (2 * (i 0).val + 1)) (bk (2 * (i 0).val + 1)) (slot1 (sl (2 * (i 0).val + 1))).view.junk _ (k0_off7_inb i 1) (off7_1 i)) (ld_slot2 c V (sl (2 * (i 0).val + 1)) (bk (2 * (i 0).val + 1)) (slot2 (sl (2 * (i 0).val + 1))).view.junk _ (k0_off7_inb i 1) (off7_1 i))
  have hacc := (whole_write cc0_scratch1 (accV c V ((i 0).val - 1)) inb_S1x768_S1x768_0_0 (k0_pay1 (step24.sl.v123 c i V xM sbM gx gsb)
      (accM.view.readAt (Elt F) (Rect.unit (s := S1x768) ![0, 0] S1x768.size inb_S1x768_S1x768_0_0).toLoadRect (accV c V ((i 0).val - 1))))).trans
    ((congrArg₂ k0_pay1 hcon (ld_whole c accM (accV c V ((i 0).val - 1)) _ rfl inb_S1x768_S1x768_0_0)).trans (accV_step c i V hi (by omega)).symm)
  have hacc' := ((congrArg₂ k0_pay1 hcon (ld_whole c accM (accV c V ((i 0).val - 1)) _ rfl inb_S1x768_S1x768_0_0)).trans (accV_step c i V hi (by omega)).symm).trans
    (congrArg (accV c V) (show (i 0).val + 1 - 1 = 24 by omega))
  have hout := out_eq c V _ _ _ _ _ _ _ _ (ld_row c pkM gpk _ rpk inb_S9x1536_S1x1536_5_0) (ld_row c pkM gpk _ rpk inb_S9x1536_S1x1536_6_0) (ld_row c pkM gpk _ rpk inb_S9x1536_S1x1536_7_0) (ld_row c pkM gpk _ rpk inb_S9x1536_S1x768_8_768) (ld_whole c semM (semV c V) _ rfl inb_S1x768_S1x768_0_0) (ld_acc c accM.view.junk _ _ hacc') (ldc7 c V cb7.view.junk) (ldc8 c V cb8.view.junk)
  isplitl [HF10_src HF20_src HF11_src HF21_src Hr Hu2 Hu3 HF10_dst HF20_dst HF10 HF20 HF11_dst HF21_dst HF11 HF21 Hsem Ha Hsc Hc0 Hc1 Hc2 Hc3 Hc4 Hc5 Hc6 Hcf7 Hcf7_dst Hcf7_src Hcf8 Hcf8_dst Hcf8_src]
  · isplitl [HF10_src HF20_src HF11_src HF21_src Hr Hu2 Hu3 HF10_dst HF20_dst HF10 HF20 HF11_dst HF21_dst HF11 HF21]
    · isplitl [HF10_src HF20_src HF11_src HF21_src Hr]
      · isplitl [HF10_src HF20_src]
        · isplitl [HF10_src]
          · iexact HF10_src
          iexact HF20_src
        isplitl [HF11_src HF21_src]
        · isplitl [HF11_src]
          · iexact HF11_src
          iexact HF21_src
        iexact Hr
      isplitl [Hu2]
      · iexact Hu2
      isplitl [Hu3]
      · iexact Hu3
      isplitl [HF10_dst HF20_dst HF10 HF20]
      · isplitl [HF10_dst]
        · iexists _; iexact HF10_dst
        isplitl [HF20_dst]
        · iexists _; iexact HF20_dst
        isplitl [HF10]
        · iexact HF10
        iexact HF20
      isplitl [HF11_dst]
      · iexists _; iexact HF11_dst
      isplitl [HF21_dst]
      · iexists _; iexact HF21_dst
      isplitl [HF11]
      · iexact HF11
      iexact HF21
    isplitl [Hsem]
    · iexact Hsem
    isplitl [Ha]
    · iapply (pt_of_eq c accM hacc); iexact Ha
    isplitl [Hsc]
    · iexact Hsc
    isplitl [Hc0]
    · iexact Hc0
    isplitl [Hc1]
    · iexact Hc1
    isplitl [Hc2]
    · iexact Hc2
    isplitl [Hc3]
    · iexact Hc3
    isplitl [Hc4]
    · iexact Hc4
    isplitl [Hc5]
    · iexact Hc5
    isplitl [Hc6]
    · iexact Hc6
    isplitl [Hcf7 Hcf7_dst Hcf7_src]
    · isplitl [Hcf7]
      · iexact Hcf7
      isplitl [Hcf7_dst]
      · iapply (pt_of_eq c cb7 (clanded7_eq c V fc7)); iexact Hcf7_dst
      iexact Hcf7_src
    isplitl [Hcf8]
    · iexact Hcf8
    isplitl [Hcf8_dst]
    · iapply (pt_of_eq c cb8 (clanded8_eq c V fc8)); iexact Hcf8_dst
    iexact Hcf8_src
  isplitl [Hx Hpk Hsw Hsb]
  · isplitl [Hx]
    · iexact Hx
    isplitl [Hpk]
    · iexact Hpk
    isplitl [Hsw]
    · iexact Hsw
    iexact Hsb
  isplitl [Ho]
  · iapply (out_done c V oM go _ (i 0).val hout); iexact Ho
  iexists _; iexact HW

end Body

end Cert.KernelIdeal.Hand

end
-- ==== Proof.KI.Run.lean ====
/-
  The launch: the body obligation from the steps, the run of the program, what the result and the arguments hold after it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Frame
public import Idealize.ShloMosaic.Lib.Pipeline.ArrRel
public import proofs.«01_k».proof.Proof.KI.Ends
public import proofs.«01_k».proof.Proof.KI.Step0
public import proofs.«01_k».proof.Proof.KI.Step1
public import proofs.«01_k».proof.Proof.KI.Step2
public import proofs.«01_k».proof.Proof.KI.Step3
public import proofs.«01_k».proof.Proof.KI.Step4
public import proofs.«01_k».proof.Proof.KI.Step5
public import proofs.«01_k».proof.Proof.KI.Step6
public import proofs.«01_k».proof.Proof.KI.Step7
public import proofs.«01_k».proof.Proof.KI.StepMid
public import proofs.«01_k».proof.Proof.KI.Step23
public import proofs.«01_k».proof.Proof.KI.Step24

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

open Idealize.ShloMosaic.Pipeline

section Run
variable (m : (ℓ : Loc nD τ sig) → Buf (Elt F) ℓ) (ρ : Dev nD → PrngReg)

/-- Core `c`'s buffers at launch; and when the kernel is entered, the host operations having run. -/
abbrev V₀ (c : Dev nD) : Valuation τ sig (Elt F) := fun b => m (c, b)
abbrev Vm (c : Dev nD) (b : Ref sig .tc) : Buf (Elt F) ((c : Thread nD τ).loc b) := StableHlo.after hostOps0 (V₀ m c) b

theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl⟩
/-- What the host operations write. -/
def hostRes : List (Ref sig .tc) := [main_call0_cst, main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15]
theorem not_written (b : Ref sig .tc) (hb : b ∉ hostRes) : ∀ op ∈ (hostOps0 (F := F)), Proc.devRef .tc b ∉ op.writes := by
  simp only [hostRes, List.mem_cons, List.mem_nil_iff, or_false, not_or] at hb
  obtain ⟨h0, h1, h2, h3, h4, h5, h6, h7, h8, h9, h10, h11, h12, h13, h14, h15, h16⟩ := hb
  intro op hop
  simp only [List.mem_cons, List.mem_nil_iff, or_false] at hop
  rcases hop with rfl | rfl | rfl | rfl | rfl | rfl | rfl | rfl | rfl | rfl | rfl | rfl | rfl | rfl | rfl | rfl | rfl <;>
    simp only [StableHlo.unary_writes, StableHlo.binary_writes, StableHlo.nullary_writes, StableHlo.nary_writes, Finset.mem_singleton] <;>
    exact StableHlo.devRef_ne_of_ne ‹_›
theorem V_launch (c : Dev nD) (b : Ref sig .tc) (hb : b ∉ hostRes) : Vm m c b = m ((c : Thread nD τ).loc b) :=
  StableHlo.after_of_forall_not_mem (b := Proc.devRef .tc b) hostOps0 (V₀ m c) (not_written b hb)

/-! ## The pipeline's data -/

/-- The inputs are left as found; the output's buffer holds the result after the last step. -/
def rdat (c : Dev nD) : RDat τ (Elt F) Unit ℕ (Pipeline.UD sig nD τ) ℕ cfg0 c where
  A w := Vm m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => t.val = 24 → X = outV c (Vm m c)
  Φ p := iprop(inv c (Vm m c) p.val ∗ more c (Vm m c))
  q _ := fullShare
  owed _ := 0

theorem index0_0 : ∀ (t : Fin cfg0.N) (a : Fin 2), (cfg0.win 0).index t a = 0 := by decide +kernel
theorem finds0_0 (c : Dev nD) (t : Fin cfg0.N) (Y) (h : (rdat m c).Finds 0 t Y) : Y = xV c (Vm m c) := by
  obtain ⟨d, rfl⟩ := RDat.finds_in_eq_fetched (rdat m c) 0 rfl (fun _ _ _ => rfl) (fun _ _ _ h => h) t Y h
  funext j
  unfold RDat.fetched Window.fill
  rw [dif_pos (((cfg0.win 0).moved_iff _ j).mpr fun a => (j a).isLt)]
  unfold RDat.blockOf
  rw [View.read_apply]
  show Vm m c main_arg0 _ = Vm m c main_arg0 j
  refine congrArg (Vm m c main_arg0) (funext fun a => Fin.ext ?_)
  have hz := index0_0 t a
  show (cfg0.win 0).index t a * (cfg0.win 0).size a + 1 * (j a).val = (j a).val
  rw [hz]; omega
theorem index0_1 : ∀ (t : Fin cfg0.N) (a : Fin 2), (cfg0.win 1).index t a = 0 := by decide +kernel
theorem finds0_1 (c : Dev nD) (t : Fin cfg0.N) (Y) (h : (rdat m c).Finds 1 t Y) : Y = pkV c (Vm m c) := by
  obtain ⟨d, rfl⟩ := RDat.finds_in_eq_fetched (rdat m c) 1 rfl (fun _ _ _ => rfl) (fun _ _ _ h => h) t Y h
  funext j
  unfold RDat.fetched Window.fill
  rw [dif_pos (((cfg0.win 1).moved_iff _ j).mpr fun a => (j a).isLt)]
  unfold RDat.blockOf
  rw [View.read_apply]
  show Vm m c main_call0_v14 _ = Vm m c main_call0_v14 j
  refine congrArg (Vm m c main_call0_v14) (funext fun a => Fin.ext ?_)
  have hz := index0_1 t a
  show (cfg0.win 1).index t a * (cfg0.win 1).size a + 1 * (j a).val = (j a).val
  rw [hz]; omega
theorem index0_2 : ∀ (t : Fin cfg0.N) (a : Fin 2), (cfg0.win 2).index t a = 0 := by decide +kernel
theorem finds0_2 (c : Dev nD) (t : Fin cfg0.N) (Y) (h : (rdat m c).Finds 2 t Y) : Y = swV c (Vm m c) := by
  obtain ⟨d, rfl⟩ := RDat.finds_in_eq_fetched (rdat m c) 2 rfl (fun _ _ _ => rfl) (fun _ _ _ h => h) t Y h
  funext j
  unfold RDat.fetched Window.fill
  rw [dif_pos (((cfg0.win 2).moved_iff _ j).mpr fun a => (j a).isLt)]
  unfold RDat.blockOf
  rw [View.read_apply]
  show Vm m c main_arg16 _ = Vm m c main_arg16 j
  refine congrArg (Vm m c main_arg16) (funext fun a => Fin.ext ?_)
  have hz := index0_2 t a
  show (cfg0.win 2).index t a * (cfg0.win 2).size a + 1 * (j a).val = (j a).val
  rw [hz]; omega
theorem index0_3 : ∀ (t : Fin cfg0.N) (a : Fin 2), (cfg0.win 3).index t a = 0 := by decide +kernel
theorem finds0_3 (c : Dev nD) (t : Fin cfg0.N) (Y) (h : (rdat m c).Finds 3 t Y) : Y = sbV c (Vm m c) := by
  obtain ⟨d, rfl⟩ := RDat.finds_in_eq_fetched (rdat m c) 3 rfl (fun _ _ _ => rfl) (fun _ _ _ h => h) t Y h
  funext j
  unfold RDat.fetched Window.fill
  rw [dif_pos (((cfg0.win 3).moved_iff _ j).mpr fun a => (j a).isLt)]
  unfold RDat.blockOf
  rw [View.read_apply]
  show Vm m c main_call0_v15 _ = Vm m c main_call0_v15 j
  refine congrArg (Vm m c main_call0_v15) (funext fun a => Fin.ext ?_)
  have hz := index0_3 t a
  show (cfg0.win 3).index t a * (cfg0.win 3).size a + 1 * (j a).val = (j a).val
  rw [hz]; omega

/-! ## The body at a point -/

theorem coords_val : ∀ t : Fin cfg0.N, (grid0.coords t 0).val = t.val := by decide +kernel

section At
variable (c : Dev nD) (V : (b : Ref sig .tc) → Buf (Elt F) ((c : Thread nD τ).loc b)) (t : Fin cfg0.N)
  (xM : Memref sig .tc .vmem S1x768 .f32) (hx : xM.IsWhole)
  (pkM : Memref sig .tc .vmem S9x1536 .f32) (hpk : pkM.IsWhole)
  (swM : Memref sig .tc .vmem S768x50 .f32) (hsw : swM.IsWhole)
  (sbM : Memref sig .tc .vmem S100x768 .f32) (hsb : sbM.IsWhole)
  (oM : Memref sig .tc .vmem S1x768 .f32) (ho : oM.IsWhole)

theorem step_at : StepOk c (grid0.coords t) V xM hx pkM hpk swM hsw sbM hsb oM ho := by
  have hv := coords_val t
  have hlt : t.val < 25 := t.isLt
  have hi : ∀ h, grid0.coords ⟨(grid0.coords t 0).val, h⟩ = grid0.coords t := fun h => congrArg grid0.coords (Fin.ext hv)
  by_cases h0 : t.val = 0
  · have e : grid0.coords t = i00 := congrArg grid0.coords (Fin.ext h0)
    rw [e]; exact step0 c V xM hx pkM hpk swM hsw sbM hsb oM ho
  by_cases h1 : t.val = 1
  · exact step1 c (grid0.coords t) V xM hx pkM hpk swM hsw sbM hsb oM ho hi (hv.trans h1)
  by_cases h2 : t.val = 2
  · exact step2 c (grid0.coords t) V xM hx pkM hpk swM hsw sbM hsb oM ho hi (hv.trans h2)
  by_cases h3 : t.val = 3
  · exact step3 c (grid0.coords t) V xM hx pkM hpk swM hsw sbM hsb oM ho hi (hv.trans h3)
  by_cases h4 : t.val = 4
  · exact step4 c (grid0.coords t) V xM hx pkM hpk swM hsw sbM hsb oM ho hi (hv.trans h4)
  by_cases h5 : t.val = 5
  · exact step5 c (grid0.coords t) V xM hx pkM hpk swM hsw sbM hsb oM ho hi (hv.trans h5)
  by_cases h6 : t.val = 6
  · exact step6 c (grid0.coords t) V xM hx pkM hpk swM hsw sbM hsb oM ho hi (hv.trans h6)
  by_cases h7 : t.val = 7
  · exact step7 c (grid0.coords t) V xM hx pkM hpk swM hsw sbM hsb oM ho hi (hv.trans h7)
  by_cases h23 : t.val = 23
  · exact step23 c (grid0.coords t) V xM hx pkM hpk swM hsw sbM hsb oM ho hi (hv.trans h23)
  by_cases h24 : t.val = 24
  · exact step24 c (grid0.coords t) V xM hx pkM hpk swM hsw sbM hsb oM ho hi (hv.trans h24)
  exact stepMid c (grid0.coords t) V xM hx pkM hpk swM hsw sbM hsb oM ho hi (by omega) (by omega)

/-- A point's body from the staging buffers to them again, with what is kept besides. -/
theorem step_framed (gx : Buf (Elt F) (xM.view.loc (c : Thread nD τ))) (gpk : Buf (Elt F) (pkM.view.loc (c : Thread nD τ))) (gsw : Buf (Elt F) (swM.view.loc (c : Thread nD τ)))
    (gsb : Buf (Elt F) (sbM.view.loc (c : Thread nD τ))) (go : Buf (Elt F) (oM.view.loc (c : Thread nD τ))) (W)
    (ex : xM.view.read (Elt F) gx = xV c V) (epk : pkM.view.read (Elt F) gpk = pkV c V) (esw : swM.view.read (Elt F) gsw = swV c V) (esb : sbM.view.read (Elt F) gsb = sbV c V)
    (R : sProp 𝕄) :
    iprop((inv c V t.val ∗ stage c xM pkM swM sbM gx gpk gsw gsb ∗ bufP c oM go ∗ owes (c : Thread nD τ) 0 W) ∗ R)
    ⊢ wp frame (wpE (defs₀ (F := F)) 𝒱₀ (c : Thread nD τ) none) Set.univ (bodyG (grid0.coords t) xM hx pkM hpk swM hsw sbM hsb oM ho) fun _ =>
      iprop((inv c V (t.val + 1) ∗ stage c xM pkM swM sbM gx gpk gsw gsb ∗ outS c V oM t.val ∗ owesS c) ∗ R) := by
  have h := step_at c V t xM hx pkM hpk swM hsw sbM hsb oM ho gx gpk gsw gsb go W ex epk esw esb
  rw [coords_val t] at h
  exact (sep_mono h .rfl).trans (wp_frame_r _ _ _)
end At

abbrev st0 (t : Fin cfg0.N) : Memref sig .tc .vmem S1x768 .f32 := win0_0.stage (cfg0.slots t 0)
abbrev st1 (t : Fin cfg0.N) : Memref sig .tc .vmem S9x1536 .f32 := win0_1.stage (cfg0.slots t 1)
abbrev st2 (t : Fin cfg0.N) : Memref sig .tc .vmem S768x50 .f32 := win0_2.stage (cfg0.slots t 2)
abbrev st3 (t : Fin cfg0.N) : Memref sig .tc .vmem S100x768 .f32 := win0_3.stage (cfg0.slots t 3)
abbrev st4 (t : Fin cfg0.N) : Memref sig .tc .vmem S1x768 .f32 := win0_4.stage (cfg0.slots t 4)

theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) (Y0 Y4 : S1x768.Idx → Elt F .f32) (Y1 : S9x1536.Idx → Elt F .f32) (Y2 : S768x50.Idx → Elt F .f32) (Y3 : S100x768.Idx → Elt F .f32)
    (h0 : Y0 = xV c (Vm m c)) (h1 : Y1 = pkV c (Vm m c)) (h2 : Y2 = swV c (Vm m c)) (h3 : Y3 = sbV c (Vm m c)) :
    iprop((inv c (Vm m c) t.val ∗ more c (Vm m c)) ∗ (∃ W : Waits sig Unit, ⌜(↑W : Set (SemLoc sig × Unit)) ⊆ (rdat m c).bound () t.castSucc⌝ ∗ owes (c : Thread nD τ) 0 W)
      ∗ owns (c : Thread nD τ) (st0 t) fullShare Y0 ∗ owns (c : Thread nD τ) (st1 t) fullShare Y1 ∗ owns (c : Thread nD τ) (st2 t) fullShare Y2 ∗ owns (c : Thread nD τ) (st3 t) fullShare Y3
      ∗ owns (c : Thread nD τ) (st4 t) fullShare Y4)
    ⊢ wp frame (wpE (defs₀ (F := F)) 𝒱₀ (c : Thread nD τ) none) Set.univ (bodyAt0 t) fun _ =>
      iprop((inv c (Vm m c) (t.val + 1) ∗ more c (Vm m c)) ∗ (∃ W : Waits sig Unit, ⌜(↑W : Set (SemLoc sig × Unit)) ⊆ (rdat m c).bound () t.succ⌝ ∗ owes (c : Thread nD τ) 0 W)
        ∗ (∃ X, ⌜X = Y0⌝ ∗ owns (c : Thread nD τ) (st0 t) fullShare X) ∗ (∃ X, ⌜X = Y1⌝ ∗ owns (c : Thread nD τ) (st1 t) fullShare X)
        ∗ (∃ X, ⌜X = Y2⌝ ∗ owns (c : Thread nD τ) (st2 t) fullShare X) ∗ (∃ X, ⌜X = Y3⌝ ∗ owns (c : Thread nD τ) (st3 t) fullShare X)
        ∗ (∃ X, ⌜t.val = 24 → X = outV c (Vm m c)⌝ ∗ owns (c : Thread nD τ) (st4 t) fullShare X)) := by
  unfold owns
  iintro ⟨⟨HI, HM⟩, ⟨%W, -, HW⟩, ⟨%g0, %e0, H0⟩, ⟨%g1, %e1, H1⟩, ⟨%g2, %e2, H2⟩, ⟨%g3, %e3, H3⟩, ⟨%g4, -, H4⟩⟩
  iapply (wp_wand_r frame (wpE (defs₀ (F := F)) 𝒱₀ (c : Thread nD τ) none) Set.univ)
  isplitl [HI HM HW H0 H1 H2 H3 H4]
  · iapply (step_framed c (Vm m c) t (st0 t) (hstage0_0 ((cfg0.slots t 0).cast nbuf0_0)) (st1 t) (hstage0_1 ((cfg0.slots t 1).cast nbuf0_1)) (st2 t) (hstage0_2 ((cfg0.slots t 2).cast nbuf0_2))
      (st3 t) (hstage0_3 ((cfg0.slots t 3).cast nbuf0_3)) (st4 t) (hstage0_4 ((cfg0.slots t 4).cast nbuf0_4)) g0 g1 g2 g3 g4 W (e0.trans h0) (e1.trans h1) (e2.trans h2) (e3.trans h3) (more c (Vm m c)))
    isplitr [HM]
    · isplitl [HI]
      · iexact HI
      isplitl [H0 H1 H2 H3]
      · unfold stage
        isplitl [H0]
        · iexact H0
        isplitl [H1]
        · iexact H1
        isplitl [H2]
        · iexact H2
        iexact H3
      isplitl [H4]
      · iexact H4
      iexact HW
    iexact HM
  unfold stage outS owesS
  iintro %_ ⟨⟨HI, ⟨H0, H1, H2, H3⟩, ⟨%g5, %e5, H5⟩, ⟨%W', HW⟩⟩, HM⟩
  isplitl [HI HM]
  · isplitl [HI]
    · iexact HI
    iexact HM
  isplitl [HW]
  · iexists W'; isplitr
    · ipureintro; exact fun _ _ => Or.inl trivial
    iexact HW
  isplitl [H0]
  · iexists Y0; isplitr
    · ipureintro; rfl
    iexists g0; isplitr
    · ipureintro; exact e0
    iexact H0
  isplitl [H1]
  · iexists Y1; isplitr
    · ipureintro; rfl
    iexists g1; isplitr
    · ipureintro; exact e1
    iexact H1
  isplitl [H2]
  · iexists Y2; isplitr
    · ipureintro; rfl
    iexists g2; isplitr
    · ipureintro; exact e2
    iexact H2
  isplitl [H3]
  · iexists Y3; isplitr
    · ipureintro; rfl
    iexists g3; isplitr
    · ipureintro; exact e3
    iexact H3
  iexists ((st4 t).view.read (Elt F) g5); isplitr
  · ipureintro; exact e5
  iexists g5; isplitr
  · ipureintro; rfl
  iexact H5

theorem body_obligation (c : Dev nD) : (rdat m c).BodyObligation (defs₀ (F := F)) 𝒱₀ () Set.univ := fun t Y hY => by
  rw [bigSep_W0, bigSep_W0, defs₀_row]
  exact triple_restated (sound_body m c t (Y 0) (Y 4) (Y 1) (Y 2) (Y 3) (finds0_0 m c t _ (hY 0)) (finds0_1 m c t _ (hY 1)) (finds0_2 m c t _ (hY 2)) (finds0_3 m c t _ (hY 3))) rfl .rfl fun _ => .rfl

/-! ## The run -/

set_option backward.isDefEq.respectTransparency.types false in
theorem run_main : θ_run defs (onTc (τ := τ) (main (F := F))) (s₀ m ρ) (fun r => RDat.FramePost cfg0 (rdat m) (Vm m) r ∧ r.2.sem = fun _ => 0) :=
  Pipeline.RDat.θ_run_frame_dma (Q' := _) cfgs (0 : Fin 1) launch0 osem0 defs₀ 𝒱₀ (rdat m) ownSemFacts0 H0 H0_sub m ρ main
    (hbody := body_obligation m) (hshare := fun c w => by unfold RDat.share; split <;> rfl)
    (howed := fun _ _ => rfl) (V := Vm m) (hmain := Pipeline.hmain_prefix cfgs 0 defs₀ 𝒱₀ m main hostOps0 hostOps0_sub hostOps0_fresh main_chain) (hA := fun _ _ => rfl)
    (hin := fun c => inv_start c (Vm m)) (hout := fun c => inv_end c (Vm m)) (hQ' := fun _ h => h)

variable {m ρ}

theorem whole4 : (cfg0.win 4).WholeAt ⟨24, by decide⟩ := by decide +kernel
/-- The result holds what the last step stored. -/
theorem final_out {r : PUnit × MemSt nD τ sig (Elt F)} (h : RDat.FramePost cfg0 (rdat m) (Vm m) r) (c : Dev nD) :
    r.2.mem ((c : Thread nD τ).loc main_v0) = outV c (Vm m c) := by
  obtain ⟨X, ⟨Y, -, hX⟩, hG⟩ := RDat.ArrAt.emb_eq_of_wholeAt (rd := rdat m c) ((h c).1 4) whole4
  have e : X = outV c (Vm m c) := hX rfl
  subst e
  funext j
  exact hG j
/-- Each argument is as launched. -/
theorem final_args {r : PUnit × MemSt nD τ sig (Elt F)} (h : RDat.FramePost cfg0 (rdat m) (Vm m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27) := by
  refine ⟨?_, ?_, ?_, ?_, ?_, ?_, ?_, ?_, ?_, ?_, ?_, ?_, ?_, ?_, ?_, ?_, ?_, ?_, ?_, ?_, ?_, ?_, ?_, ?_, ?_, ?_, ?_, ?_⟩
  · exact (RDat.FramePost.arr_in h c 0 rfl).trans (V_launch m c main_arg0 (by decide))
  · exact ((h c).2 main_arg1 (Pipeline.mem_restRefs_of main_arg1 (by decide) (by decide))).trans (V_launch m c main_arg1 (by decide))
  · exact ((h c).2 main_arg2 (Pipeline.mem_restRefs_of main_arg2 (by decide) (by decide))).trans (V_launch m c main_arg2 (by decide))
  · exact ((h c).2 main_arg3 (Pipeline.mem_restRefs_of main_arg3 (by decide) (by decide))).trans (V_launch m c main_arg3 (by decide))
  · exact ((h c).2 main_arg4 (Pipeline.mem_restRefs_of main_arg4 (by decide) (by decide))).trans (V_launch m c main_arg4 (by decide))
  · exact ((h c).2 main_arg5 (Pipeline.mem_restRefs_of main_arg5 (by decide) (by decide))).trans (V_launch m c main_arg5 (by decide))
  · exact ((h c).2 main_arg6 (Pipeline.mem_restRefs_of main_arg6 (by decide) (by decide))).trans (V_launch m c main_arg6 (by decide))
  · exact ((h c).2 main_arg7 (Pipeline.mem_restRefs_of main_arg7 (by decide) (by decide))).trans (V_launch m c main_arg7 (by decide))
  · exact ((h c).2 main_arg8 (Pipeline.mem_restRefs_of main_arg8 (by decide) (by decide))).trans (V_launch m c main_arg8 (by decide))
  · exact ((h c).2 main_arg9 (Pipeline.mem_restRefs_of main_arg9 (by decide) (by decide))).trans (V_launch m c main_arg9 (by decide))
  · exact ((h c).2 main_arg10 (Pipeline.mem_restRefs_of main_arg10 (by decide) (by decide))).trans (V_launch m c main_arg10 (by decide))
  · exact ((h c).2 main_arg11 (Pipeline.mem_restRefs_of main_arg11 (by decide) (by decide))).trans (V_launch m c main_arg11 (by decide))
  · exact ((h c).2 main_arg12 (Pipeline.mem_restRefs_of main_arg12 (by decide) (by decide))).trans (V_launch m c main_arg12 (by decide))
  · exact ((h c).2 main_arg13 (Pipeline.mem_restRefs_of main_arg13 (by decide) (by decide))).trans (V_launch m c main_arg13 (by decide))
  · exact ((h c).2 main_arg14 (Pipeline.mem_restRefs_of main_arg14 (by decide) (by decide))).trans (V_launch m c main_arg14 (by decide))
  · exact ((h c).2 main_arg15 (Pipeline.mem_restRefs_of main_arg15 (by decide) (by decide))).trans (V_launch m c main_arg15 (by decide))
  · exact (RDat.FramePost.arr_in h c 2 rfl).trans (V_launch m c main_arg16 (by decide))
  · exact ((h c).2 main_arg17 (Pipeline.mem_restRefs_of main_arg17 (by decide) (by decide))).trans (V_launch m c main_arg17 (by decide))
  · exact ((h c).2 main_arg18 (Pipeline.mem_restRefs_of main_arg18 (by decide) (by decide))).trans (V_launch m c main_arg18 (by decide))
  · exact ((h c).2 main_arg19 (Pipeline.mem_restRefs_of main_arg19 (by decide) (by decide))).trans (V_launch m c main_arg19 (by decide))
  · exact ((h c).2 main_arg20 (Pipeline.mem_restRefs_of main_arg20 (by decide) (by decide))).trans (V_launch m c main_arg20 (by decide))
  · exact ((h c).2 main_arg21 (Pipeline.mem_restRefs_of main_arg21 (by decide) (by decide))).trans (V_launch m c main_arg21 (by decide))
  · exact ((h c).2 main_arg22 (Pipeline.mem_restRefs_of main_arg22 (by decide) (by decide))).trans (V_launch m c main_arg22 (by decide))
  · exact ((h c).2 main_arg23 (Pipeline.mem_restRefs_of main_arg23 (by decide) (by decide))).trans (V_launch m c main_arg23 (by decide))
  · exact ((h c).2 main_arg24 (Pipeline.mem_restRefs_of main_arg24 (by decide) (by decide))).trans (V_launch m c main_arg24 (by decide))
  · exact ((h c).2 main_arg25 (Pipeline.mem_restRefs_of main_arg25 (by decide) (by decide))).trans (V_launch m c main_arg25 (by decide))
  · exact ((h c).2 main_arg26 (Pipeline.mem_restRefs_of main_arg26 (by decide) (by decide))).trans (V_launch m c main_arg26 (by decide))
  · exact ((h c).2 main_arg27 (Pipeline.mem_restRefs_of main_arg27 (by decide) (by decide))).trans (V_launch m c main_arg27 (by decide))

end Run

end Cert.KernelIdeal.Hand

end
-- ==== Proof.Frames.lean ====
/- The frames of the two kernel programs, read off the launch's run, and of the reference, read off its list of operations; and the one named constant. -/
module

public import proofs.«01_k».proof.Defs
public import proofs.«01_k».proof.Proof.K.Run
public import proofs.«01_k».proof.Proof.KI.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

theorem frame_kernel : Cert.quiescent_Kernel := fun m g _ =>
  (θ_run Cert.Kernel.defs _ _).mono (fun _ h => ⟨fun c => Cert.Kernel.Hand.final_args h.1 c, h.2⟩) (Cert.Kernel.Hand.run_main (F := Bits) m g)

theorem frame_kernel_ideal : Cert.quiescent_KernelIdeal := fun m g _ =>
  (θ_run Cert.KernelIdeal.defs _ _).mono (fun _ h => ⟨fun c => Cert.KernelIdeal.Hand.final_args h.1 c, h.2⟩) (Cert.KernelIdeal.Hand.run_main (F := Ideal) m g)

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem preserves_kernel : Cert.preserves_Kernel_KernelIdeal :=
  IdealRules.named_const.statement Cert.KernelIdeal.κ "inv_sqrt_hd" .f32 0x3DD105EC#32 (((Real.sqrt 96)⁻¹ : ℝ) : EReal) rfl

end Cert.Proof

end
-- ==== Proof.Value.Ref.lean ====
/- The reference's composed term cut into its parts: each part a function of the arrays it reads. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- A row of 768, of 1536, of 50 numbers as a matrix of one row. -/
def row768 (b : FVec Ideal S768 .f32) : FVec Ideal S1x768 .f32 := broadcastInDim S1x768 ![1] bcast_S768_S1x768_1 b
def row1536 (b : FVec Ideal S1536 .f32) : FVec Ideal S1x1536 .f32 := broadcastInDim S1x1536 ![1] bcast_S1536_S1x1536_1 b
def row50 (b : FVec Ideal S50 .f32) : FVec Ideal S1x50 .f32 := broadcastInDim S1x50 ![1] bcast_S50_S1x50_1 b

/-- The query; the keys and the values (the same map of the concepts). -/
def rQ (x : FVec Ideal S1x768 .f32) (wq : FVec Ideal S768x768 .f32) (bq : FVec Ideal S1x768 .f32) : FVec Ideal S1x768 .f32 :=
  addf (Host.dotGeneral dot_S1x768_S768x768_S1x768_1_0_0_1_n_n none x wq) bq
def rKV (c : FVec Ideal S1000x768 .f32) (w : FVec Ideal S768x768 .f32) (b : FVec Ideal S768 .f32) : FVec Ideal S1000x768 .f32 :=
  addf (Host.dotGeneral dot_S1000x768_S768x768_S1000x768_1_0_0_1_n_n none c w) (broadcastInDim S1000x768 ![0, 1] bcast_S1x768_S1000x768_0_1 (broadcastInDim S1x768 ![1] bcast_S768_S1x768_1 b))
/-- The logits, head by head. -/
def rLog (q : FVec Ideal S1x768 .f32) (k : FVec Ideal S1000x768 .f32) : FVec Ideal S8x1x1000 .f32 :=
  Host.divf (Host.dotGeneral dot_S1x8x96_S1000x8x96_S8x1x1000_2_2_0_0_1_1 none (shapeCast _ q shapeCasts_S1x768_S1x8x96) (shapeCast _ k shapeCasts_S1000x768_S1000x8x96)) (broadcastInDim S8x1x1000 ![] bcast_S_S8x1x1000 (Host.sqrt (constant S_ .f32 0x42C00000#32)))
/-- The softmax of the logits, before and after the division. -/
def rE (L : FVec Ideal S8x1x1000 .f32) : FVec Ideal S8x1x1000 .f32 :=
  Host.exp (subf L (broadcastInDim S8x1x1000 ![0, 1, 2] bcast_S8x1x1_S8x1x1000_0_1_2 (broadcastInDim S8x1x1 ![0, 1] bcast_S8x1_S8x1x1_0_1 (maximumf (broadcastInDim S8x1 ![] bcast_S_S8x1 (constant S_ .f32 0xFF800000#32)) (Host.reduce FloatOps.maximumf L (constant S_ .f32 0xFF800000#32) reducesTo_S8x1x1000_S8x1_d2 h_S_)))))
def rW (L : FVec Ideal S8x1x1000 .f32) : FVec Ideal S8x1x1000 .f32 :=
  Host.divf (rE L) (broadcastInDim S8x1x1000 ![0, 1, 2] bcast_S8x1x1_S8x1x1000_0_1_2 (broadcastInDim S8x1x1 ![0, 1] bcast_S8x1_S8x1x1_0_1 (Host.reduceAdd (rE L) (constant S_ .f32 0x00000000#32) reducesTo_S8x1x1000_S8x1_d2 h_S_)))
/-- The weighted sum of the values, the heads side by side. -/
def rO (v : FVec Ideal S1000x768 .f32) (w : FVec Ideal S8x1x1000 .f32) : FVec Ideal S1x768 .f32 :=
  shapeCast _ (transpose S1x8x96 [2, 0, 1] (Host.dotGeneral dot_S1000x8x96_S8x1x1000_S8x96x1_0_2_2_1_1_0 none (shapeCast _ v shapeCasts_S1000x768_S1000x8x96) w) transposes_S8x96x1_S1x8x96_2_0_1) shapeCasts_S1x8x96_S1x768
/-- The whole attention. -/
def rAtt (x : FVec Ideal S1x768 .f32) (c : FVec Ideal S1000x768 .f32) (wq : FVec Ideal S768x768 .f32) (bq : FVec Ideal S768 .f32) (wk : FVec Ideal S768x768 .f32) (bk : FVec Ideal S768 .f32)
    (wv : FVec Ideal S768x768 .f32) (bv : FVec Ideal S768 .f32) : FVec Ideal S1x768 .f32 :=
  rO (rKV c wv bv) (rW (rLog (rQ x wq (row768 bq)) (rKV c wk bk)))

/-- The first layer of the knowledge encoder, of what is attended. -/
def rHid (x o : FVec Ideal S1x768 .f32) (wo : FVec Ideal S768x768 .f32) (bo : FVec Ideal S1x768 .f32) (w1 : FVec Ideal S768x1536 .f32) (b1 : FVec Ideal S1x1536 .f32) : FVec Ideal S1x1536 .f32 :=
  addf (Host.dotGeneral dot_S1x768_S768x1536_S1x1536_1_0_0_1_n_n none (addf x (addf (Host.dotGeneral dot_S1x768_S768x768_S1x768_1_0_0_1_n_n none o wo) bo)) w1) b1
/-- The mean of a row, its variance, and the layer norm followed by the rectifier. -/
def rMean (y : FVec Ideal S1x1536 .f32) : FVec Ideal S1x1 .f32 :=
  Host.divf (broadcastInDim S1x1 ![0] bcast_S1_S1x1_0 (Host.reduceAdd y (constant S_ .f32 0x00000000#32) reducesTo_S1x1536_S1_d1 h_S_)) (broadcastInDim S1x1 ![] bcast_S_S1x1 (constant S_ .f32 0x44C00000#32))
def rCen (y : FVec Ideal S1x1536 .f32) : FVec Ideal S1x1536 .f32 :=
  subf y (broadcastInDim S1x1536 ![0, 1] bcast_S1x1_S1x1536_0_1 (rMean y))
def rCount : FVec Ideal S_ .f32 := subf (constant S_ .f32 0x44C00000#32) (sitofp .f32 (constantI S_ 32 0#32))
def rVar (y : FVec Ideal S1x1536 .f32) : FVec Ideal S1x1 .f32 :=
  select (broadcastInDim S1x1 ![] bcast_S_S1x1 (cmpf .ogt rCount (constant S_ .f32 0x00000000#32))) (Host.divf (broadcastInDim S1x1 ![0] bcast_S1_S1x1_0 (Host.reduceAdd (mulf (rCen y) (rCen y)) (constant S_ .f32 0x00000000#32) reducesTo_S1x1536_S1_d1 h_S_)) (broadcastInDim S1x1 ![] bcast_S_S1x1 rCount)) (broadcastInDim S1x1 ![] bcast_S_S1x1 (id (constant S_ .f32 0x7FC00000#32)))
def rLn (y g b : FVec Ideal S1x1536 .f32) : FVec Ideal S1x1536 .f32 :=
  maximumf (addf (mulf (Host.divf (rCen y) (broadcastInDim S1x1536 ![0, 1] bcast_S1x1_S1x1536_0_1 (Host.sqrt (addf (rVar y) (broadcastInDim S1x1 ![] bcast_S_S1x1 (constant S_ .f32 0x3727C5AC#32)))))) g) b) (broadcastInDim S1x1536 ![] bcast_S_S1x1536 (constant S_ .f32 0x00000000#32))
/-- The second layer, after the norm. -/
def rOut (y g b : FVec Ideal S1x1536 .f32) (w : FVec Ideal S1536x768 .f32) (b2 : FVec Ideal S1x768 .f32) : FVec Ideal S1x768 .f32 :=
  addf (Host.dotGeneral dot_S1x1536_S1536x768_S1x768_1_0_0_1_n_n none (rLn y g b) w) b2

/-- The skills' scores and their softmax. -/
def rSco (x : FVec Ideal S1x768 .f32) (w : FVec Ideal S768x50 .f32) (b : FVec Ideal S1x50 .f32) : FVec Ideal S1x50 .f32 :=
  addf (Host.dotGeneral dot_S1x768_S768x50_S1x50_1_0_0_1_n_n none x w) b
def rSE (s : FVec Ideal S1x50 .f32) : FVec Ideal S1x50 .f32 :=
  Host.exp (subf s (broadcastInDim S1x50 ![0, 1] bcast_S1x1_S1x50_0_1 (broadcastInDim S1x1 ![0] bcast_S1_S1x1_0 (maximumf (broadcastInDim S1 ![] bcast_S_S1 (constant S_ .f32 0xFF800000#32)) (Host.reduce FloatOps.maximumf s (constant S_ .f32 0xFF800000#32) reducesTo_S1x50_S1_d1 h_S_)))))
def rSm (s : FVec Ideal S1x50 .f32) : FVec Ideal S1x50 .f32 :=
  Host.divf (rSE s) (broadcastInDim S1x50 ![0, 1] bcast_S1x1_S1x50_0_1 (broadcastInDim S1x1 ![0] bcast_S1_S1x1_0 (Host.reduceAdd (rSE s) (constant S_ .f32 0x00000000#32) reducesTo_S1x50_S1_d1 h_S_)))
/-- The mixture of the skills. -/
def rProc (x : FVec Ideal S1x768 .f32) (p : FVec Ideal S1x50 .f32) (w1 : FVec Ideal S50x768x768 .f32) (b1 : FVec Ideal S50x768 .f32) (w2 : FVec Ideal S50x768x768 .f32) (b2 : FVec Ideal S50x768 .f32) : FVec Ideal S1x768 .f32 :=
  Host.reduceAdd (mulf (broadcastInDim S50x1x768 ![0, 1, 2] bcast_S50x1x1_S50x1x768_0_1_2 (broadcastInDim S50x1x1 ![0, 1] bcast_S50x1_S50x1x1_0_1 (transpose S50x1 [1, 0] p transposes_S1x50_S50x1_1_0))) (addf (Host.dotGeneral dot_S50x1x768_S50x768x768_S50x1x768_2_1_1_2_0_0 none (maximumf (addf (transpose S50x1x768 [0, 2, 1] (Host.dotGeneral dot_S50x768x768_S1x768_S50x768x1_1_1_02_0_n_n none w1 x) transposes_S50x768x1_S50x1x768_0_2_1) (broadcastInDim S50x1x768 ![0, 2] bcast_S50x768_S50x1x768_0_2 b1)) (broadcastInDim S50x1x768 ![] bcast_S_S50x1x768 (constant S_ .f32 0x00000000#32))) w2) (broadcastInDim S50x1x768 ![0, 2] bcast_S50x768_S50x1x768_0_2 b2))) (constant S_ .f32 0x00000000#32) reducesTo_S50x1x768_S1x768_d0 h_S_
/-- The first layer of the fusion. -/
def rFu (sem proc : FVec Ideal S1x768 .f32) (w : FVec Ideal S3072x1536 .f32) (b : FVec Ideal S1x1536 .f32) : FVec Ideal S1x1536 .f32 :=
  addf (Host.dotGeneral dot_S1x3072_S3072x1536_S1x1536_1_0_0_1_n_n none (concatenate S1x3072 1 [⟨S1x768, broadcastInDim S1x768 ![] bcast_S_S1x768 (constant (F := Ideal) S_ .f32 0x00000000#32)⟩, ⟨S1x768, broadcastInDim S1x768 ![] bcast_S_S1x768 (constant (F := Ideal) S_ .f32 0x00000000#32)⟩, ⟨S1x768, sem⟩, ⟨S1x768, proc⟩] concatenates_S1x768_S1x768_S1x768_S1x768_S1x3072_d1) w) b

/-- The reference of its twenty-eight arrays. -/
def rAll (x : FVec Ideal S1x768 .f32) (c : FVec Ideal S1000x768 .f32) (wq : FVec Ideal S768x768 .f32) (bq : FVec Ideal S768 .f32) (wk : FVec Ideal S768x768 .f32) (bk : FVec Ideal S768 .f32)
    (wv : FVec Ideal S768x768 .f32) (bv : FVec Ideal S768 .f32) (wo : FVec Ideal S768x768 .f32) (bo : FVec Ideal S768 .f32)
    (ke1 : FVec Ideal S768x1536 .f32) (keb1 keg1 kebe1 : FVec Ideal S1536 .f32) (ke2 : FVec Ideal S1536x768 .f32) (keb2 : FVec Ideal S768 .f32)
    (sw : FVec Ideal S768x50 .f32) (sb : FVec Ideal S50 .f32) (s1 : FVec Ideal S50x768x768 .f32) (sb1 : FVec Ideal S50x768 .f32) (s2 : FVec Ideal S50x768x768 .f32) (sb2 : FVec Ideal S50x768 .f32)
    (f1 : FVec Ideal S3072x1536 .f32) (fb1 fg fbe : FVec Ideal S1536 .f32) (f2 : FVec Ideal S1536x768 .f32) (fb2 : FVec Ideal S768 .f32) : FVec Ideal S1x768 .f32 :=
  rOut (rFu (rOut (rHid x (rAtt x c wq bq wk bk wv bv) wo (row768 bo) ke1 (row1536 keb1)) (row1536 keg1) (row1536 kebe1) ke2 (row768 keb2))
      (rProc x (rSm (rSco x sw (row50 sb))) s1 sb1 s2 sb2) f1 (row1536 fb1)) (row1536 fg) (row1536 fbe) f2 (row768 fb2)

theorem val_eq (V0 : Valuation τ sig (Elt Ideal)) : Value.val3 V0 (Proc.devRef .tc main_v111)
    = rAll (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
      (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))
      (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23))
      (V0 (Proc.devRef .tc main_arg24)) (V0 (Proc.devRef .tc main_arg25)) (V0 (Proc.devRef .tc main_arg26)) (V0 (Proc.devRef .tc main_arg27)) :=
  (Value.val3_main_v111 V0).trans rfl

end Cert.ReferenceIdeal.Hand

end
-- ==== Proof.Value.Pack.lean ====
/- The rows the host operations pack, read back. -/
module

public import proofs.«01_k».proof.Proof.Gen.KernelIdeal.Launch
public import proofs.«01_k».proof.Proof.KI.Run
public import proofs.«01_k».proof.Proof.Value.Ref
public import Idealize.ShloMosaic.Lib.Pointwise
public import Idealize.ShloMosaic.Lib.VecWindow

@[expose] public section

set_option maxRecDepth 16384

noncomputable section

namespace Cert.KernelIdeal.Val

open Cert.KernelIdeal Cert.KernelIdeal.Gen Cert.KernelIdeal.Hand Cert.ReferenceIdeal.Hand Idealize.ShloMosaic Idealize.ShloMosaic.TcCoe Idealize.SL.Sem

/-- Two rows of 768 end to end; the last row, of 50, of 718 zeros and of 768. -/
def two (a b : FVec Ideal S768 .f32) : FVec Ideal S1536 .f32 := concatenate S1536 0 [⟨S768, a⟩, ⟨S768, b⟩] concatenates_S768_S768_S1536_d0
def last (a : FVec Ideal S50 .f32) (b : FVec Ideal S768 .f32) : FVec Ideal S1536 .f32 :=
  concatenate S1536 0 [⟨S50, a⟩, ⟨S718, extractStridedSlice S718 ![0] (broadcastInDim S1536 ![] bcast_S_S1536 (constant (F := Ideal) S_ .f32 0x00000000#32)) slices_S1536_S718_0⟩, ⟨S768, b⟩] concatenates_S50_S718_S768_S1536_d0
def flat (a : FVec Ideal S1536 .f32) : FVec Ideal S1x1536 .f32 := broadcastInDim S1x1536 ![1] bcast_S1536_S1x1536_1 a
/-- The packed rows; the skills' biases. -/
def packT (a3 a7 a9 a15 : FVec Ideal S768 .f32) (a11 a12 a13 a23 a24 a25 : FVec Ideal S1536 .f32) (a17 : FVec Ideal S50 .f32) (a27 : FVec Ideal S768 .f32) : FVec Ideal S9x1536 .f32 :=
  concatenate S9x1536 0 [⟨S1x1536, flat (two a3 a7)⟩, ⟨S1x1536, flat (two a9 a15)⟩, ⟨S1x1536, flat a11⟩, ⟨S1x1536, flat a12⟩, ⟨S1x1536, flat a13⟩, ⟨S1x1536, flat a23⟩, ⟨S1x1536, flat a24⟩, ⟨S1x1536, flat a25⟩, ⟨S1x1536, flat (last a17 a27)⟩] concatenates_S1x1536_S1x1536_S1x1536_S1x1536_S1x1536_S1x1536_S1x1536_S1x1536_S1x1536_S9x1536_d0
def skbT (a19 a21 : FVec Ideal S50x768 .f32) : FVec Ideal S100x768 .f32 := concatenate S100x768 0 [⟨S50x768, a19⟩, ⟨S50x768, a21⟩] concatenates_S50x768_S50x768_S100x768_d0

section
variable (m : (ℓ : Loc nD τ sig) → Buf (Elt Ideal) ℓ) (c : Dev nD)

theorem pack_read : pkV c (Vm m c) = packT (m ((c : Thread nD τ).loc main_arg3)) (m ((c : Thread nD τ).loc main_arg7)) (m ((c : Thread nD τ).loc main_arg9)) (m ((c : Thread nD τ).loc main_arg15))
    (m ((c : Thread nD τ).loc main_arg11)) (m ((c : Thread nD τ).loc main_arg12)) (m ((c : Thread nD τ).loc main_arg13)) (m ((c : Thread nD τ).loc main_arg23)) (m ((c : Thread nD τ).loc main_arg24)) (m ((c : Thread nD τ).loc main_arg25))
    (m ((c : Thread nD τ).loc main_arg17)) (m ((c : Thread nD τ).loc main_arg27)) := by
  show StableHlo.after hostOps0 _ (Proc.devRef .tc main_call0_v14) = _
  after_results
  rfl
theorem skb_read : sbV c (Vm m c) = skbT (m ((c : Thread nD τ).loc main_arg19)) (m ((c : Thread nD τ).loc main_arg21)) := by
  show StableHlo.after hostOps0 _ (Proc.devRef .tc main_call0_v15) = _
  after_results
  rfl
end

section
variable (a3 a7 a9 a15 : FVec Ideal S768 .f32) (a11 a12 a13 a23 a24 a25 : FVec Ideal S1536 .f32) (a17 : FVec Ideal S50 .f32) (a27 : FVec Ideal S768 .f32)

theorem row0a : (VecWindow.window (s := S9x1536) (packT a3 a7 a9 a15 a11 a12 a13 a23 a24 a25 a17 a27) ![0, 0] S1x768.size inb_S9x1536_S1x768_0_0 : FVec Ideal S1x768 .f32) = row768 a3 := by
  funext i; idx_vars i; rw [VecWindow.window_eq_ld (Val := Elt Ideal) (e := .f32)]
  pointwise [packT, flat, two, last, row768]
theorem row0b : (VecWindow.window (s := S9x1536) (packT a3 a7 a9 a15 a11 a12 a13 a23 a24 a25 a17 a27) ![0, 768] S1x768.size inb_S9x1536_S1x768_0_768 : FVec Ideal S1x768 .f32) = row768 a7 := by
  funext i; idx_vars i; rw [VecWindow.window_eq_ld (Val := Elt Ideal) (e := .f32)]
  pointwise [packT, flat, two, last, row768]
theorem row1a : (VecWindow.window (s := S9x1536) (packT a3 a7 a9 a15 a11 a12 a13 a23 a24 a25 a17 a27) ![1, 0] S1x768.size inb_S9x1536_S1x768_1_0 : FVec Ideal S1x768 .f32) = row768 a9 := by
  funext i; idx_vars i; rw [VecWindow.window_eq_ld (Val := Elt Ideal) (e := .f32)]
  pointwise [packT, flat, two, last, row768]
theorem row1b : (VecWindow.window (s := S9x1536) (packT a3 a7 a9 a15 a11 a12 a13 a23 a24 a25 a17 a27) ![1, 768] S1x768.size inb_S9x1536_S1x768_1_768 : FVec Ideal S1x768 .f32) = row768 a15 := by
  funext i; idx_vars i; rw [VecWindow.window_eq_ld (Val := Elt Ideal) (e := .f32)]
  pointwise [packT, flat, two, last, row768]
theorem row8b : (VecWindow.window (s := S9x1536) (packT a3 a7 a9 a15 a11 a12 a13 a23 a24 a25 a17 a27) ![8, 768] S1x768.size inb_S9x1536_S1x768_8_768 : FVec Ideal S1x768 .f32) = row768 a27 := by
  funext i; idx_vars i; rw [VecWindow.window_eq_ld (Val := Elt Ideal) (e := .f32)]
  pointwise [packT, flat, two, last, row768]
  rw [dif_neg (by omega), dif_neg (by omega)]
  congr 2; apply Fin.ext; simp only [Fin.val_mk]; omega
theorem row8a : (VecWindow.window (s := S9x1536) (packT a3 a7 a9 a15 a11 a12 a13 a23 a24 a25 a17 a27) ![8, 0] S1x50.size inb_S9x1536_S1x50_8_0 : FVec Ideal S1x50 .f32) = row50 a17 := by
  funext i; idx_vars i; rw [VecWindow.window_eq_ld (Val := Elt Ideal) (e := .f32)]
  pointwise [packT, flat, two, last, row50]
theorem row2 : (VecWindow.window (s := S9x1536) (packT a3 a7 a9 a15 a11 a12 a13 a23 a24 a25 a17 a27) ![2, 0] S1x1536.size inb_S9x1536_S1x1536_2_0 : FVec Ideal S1x1536 .f32) = row1536 a11 := by
  funext i; idx_vars i; rw [VecWindow.window_eq_ld (Val := Elt Ideal) (e := .f32)]
  pointwise [packT, flat, two, last, row1536]
theorem row3 : (VecWindow.window (s := S9x1536) (packT a3 a7 a9 a15 a11 a12 a13 a23 a24 a25 a17 a27) ![3, 0] S1x1536.size inb_S9x1536_S1x1536_3_0 : FVec Ideal S1x1536 .f32) = row1536 a12 := by
  funext i; idx_vars i; rw [VecWindow.window_eq_ld (Val := Elt Ideal) (e := .f32)]
  pointwise [packT, flat, two, last, row1536]
theorem row4 : (VecWindow.window (s := S9x1536) (packT a3 a7 a9 a15 a11 a12 a13 a23 a24 a25 a17 a27) ![4, 0] S1x1536.size inb_S9x1536_S1x1536_4_0 : FVec Ideal S1x1536 .f32) = row1536 a13 := by
  funext i; idx_vars i; rw [VecWindow.window_eq_ld (Val := Elt Ideal) (e := .f32)]
  pointwise [packT, flat, two, last, row1536]
theorem row5 : (VecWindow.window (s := S9x1536) (packT a3 a7 a9 a15 a11 a12 a13 a23 a24 a25 a17 a27) ![5, 0] S1x1536.size inb_S9x1536_S1x1536_5_0 : FVec Ideal S1x1536 .f32) = row1536 a23 := by
  funext i; idx_vars i; rw [VecWindow.window_eq_ld (Val := Elt Ideal) (e := .f32)]
  pointwise [packT, flat, two, last, row1536]
theorem row6 : (VecWindow.window (s := S9x1536) (packT a3 a7 a9 a15 a11 a12 a13 a23 a24 a25 a17 a27) ![6, 0] S1x1536.size inb_S9x1536_S1x1536_6_0 : FVec Ideal S1x1536 .f32) = row1536 a24 := by
  funext i; idx_vars i; rw [VecWindow.window_eq_ld (Val := Elt Ideal) (e := .f32)]
  pointwise [packT, flat, two, last, row1536]
theorem row7 : (VecWindow.window (s := S9x1536) (packT a3 a7 a9 a15 a11 a12 a13 a23 a24 a25 a17 a27) ![7, 0] S1x1536.size inb_S9x1536_S1x1536_7_0 : FVec Ideal S1x1536 .f32) = row1536 a25 := by
  funext i; idx_vars i; rw [VecWindow.window_eq_ld (Val := Elt Ideal) (e := .f32)]
  pointwise [packT, flat, two, last, row1536]
end

theorem skb_lo (a b : FVec Ideal S50x768 .f32) (n : Fin 50) (off : Fin 2 → ℕ) (e : off = ![n.val, 0]) (h : ∀ k, off k + S1x768.size k ≤ S100x768.size k) (l : Fin 768) :
    (VecWindow.window (s := S100x768) (skbT a b) off S1x768.size h : FVec Ideal S1x768 .f32) (ix2 0 l) = a (ix2 n l) := by
  subst e
  rw [VecWindow.window_eq_ld (Val := Elt Ideal) (e := .f32)]
  pointwise [skbT]
theorem skb_hi (a b : FVec Ideal S50x768 .f32) (n : Fin 50) (off : Fin 2 → ℕ) (e : off = ![n.val + 50, 0]) (h : ∀ k, off k + S1x768.size k ≤ S100x768.size k) (l : Fin 768) :
    (VecWindow.window (s := S100x768) (skbT a b) off S1x768.size h : FVec Ideal S1x768 .f32) (ix2 0 l) = b (ix2 n l) := by
  subst e
  rw [VecWindow.window_eq_ld (Val := Elt Ideal) (e := .f32)]
  pointwise [skbT]
  rw [dif_neg (by omega)]
  congr 2
theorem blk_read (w : FVec Ideal S50x768x768 .f32) (n : Fin 50) (j k : Fin 768) :
    (VecWindow.window (s := S50x768x768) w (blkOff n) S1x768x768.size (blkOff_inb n) : FVec Ideal S1x768x768 .f32) (ix3 0 j k) = w (ix3 n j k) := by
  rw [VecWindow.window_eq_ld (Val := Elt Ideal) (e := .f32)]
  pointwise []
theorem lower_read (c : Dev nD) (w : FVec Ideal S3072x1536 .f32) (r l : Fin 1536) :
    (hb7s.view.read (Elt Ideal) w : FVec Ideal S1536x1536 .f32) (ix2 r l) = w (ix2 ⟨1536 + r.val, by omega⟩ l) := by
  show w _ = w _
  congr 1; funext a; revert a
  refine Fin.forall_fin_two.2 ⟨Fin.ext ?_, Fin.ext ?_⟩
  · show 1536 + 1 * r.val = 1536 + r.val
    omega
  · show 0 + 1 * l.val = l.val
    omega

end Cert.KernelIdeal.Val

end
-- ==== Proof.Value.Blocks.lean ====
/- The kernel's values of the dense layers, the norm and the selector, against the reference's. -/
module

public import proofs.«01_k».proof.Proof.Gen.KernelIdeal.Skeleton
public import proofs.«01_k».proof.Proof.Value.Ref
public import Idealize.ShloMosaic.Lib.Pointwise

@[expose] public section

set_option maxRecDepth 16384

noncomputable section

namespace Cert.KernelIdeal.Val

open Cert.KernelIdeal Cert.KernelIdeal.Gen Cert.ReferenceIdeal.Hand Idealize.ShloMosaic

theorem c1536 : Ideal.ofBits .f32 0x44C00000#32 = ((1536 : ℝ) : EReal) := by
  simp [Ideal.ofBits, Ideal.ieee, -EReal.coe_mul]; norm_num
theorem c96 : Ideal.ofBits .f32 0x42C00000#32 = ((96 : ℝ) : EReal) := by
  simp [Ideal.ofBits, Ideal.ieee, -EReal.coe_mul]; norm_num
theorem cNegInf : Ideal.ofBits .f32 0xFF800000#32 = (⊥ : EReal) := by
  simp [Ideal.ofBits, Ideal.ieee, -EReal.coe_mul]

/-- The query. -/
theorem pay6_eq (x b : FVec Ideal S1x768 .f32) (w : FVec Ideal S768x768 .f32) : k0_pay6 x b w = rQ x w b := by
  funext i; idx_vars i; pointwise! [k0_pay6, rQ]

/-- The kernel's norm followed by the rectifier, of a row. -/
def kMean (y : FVec Ideal S1x1536 .f32) : FVec Ideal S1x1 .f32 :=
  divf (shapeCast S1x1 (multiReduction .add [1] S1 y 0x00000000#32 reduces_S1x1536_S1 (.inl rfl) rfl) shapeCasts_S1_S1x1) (broadcast S1x1 (Scalar.ofBits .f32 0x44C00000#32))
def kCen (y : FVec Ideal S1x1536 .f32) : FVec Ideal S1x1536 .f32 := subf y (broadcastTo S1x1536 (kMean y) broadcasts_S1x1_S1x1536)
def kVar (y : FVec Ideal S1x1536 .f32) : FVec Ideal S1x1 .f32 :=
  divf (shapeCast S1x1 (multiReduction .add [1] S1 (mulf (kCen y) (kCen y)) 0x00000000#32 reduces_S1x1536_S1 (.inl rfl) rfl) shapeCasts_S1_S1x1) (broadcast S1x1 (Scalar.ofBits .f32 0x44C00000#32))
def kLn (y g b : FVec Ideal S1x1536 .f32) : FVec Ideal S1x1536 .f32 :=
  maximumf (addf (mulf (divf (kCen y) (broadcastTo S1x1536 (sqrt (addf (kVar y) (broadcast S1x1 (Scalar.ofBits .f32 0x3727C5AC#32)))) broadcasts_S1x1_S1x1536)) g) b) (broadcast S1x1536 (Scalar.ofBits .f32 0x00000000#32))

theorem kMean_eq (y : FVec Ideal S1x1536 .f32) : kMean y = rMean y := by
  funext i; idx_vars i; pointwise! [kMean, rMean]
theorem kCen_eq (y : FVec Ideal S1x1536 .f32) : kCen y = rCen y := by
  unfold kCen rCen; rw [kMean_eq]; funext i; idx_vars i; pointwise! []
theorem rVar_eq (y : FVec Ideal S1x1536 .f32) : kVar y = rVar y := by
  unfold kVar rVar; rw [kCen_eq]; funext i; idx_vars i; pointwise [rCount]
  have e : Ideal.ofBits .f32 0x44C00000#32 - FloatOps.sitofp (F := Ideal) .f32 0#32 = ((1536 : ℝ) : EReal) := by
    rw [c1536]; show ((1536 : ℝ) : EReal) - (((0#32 : BitVec 32).toInt : ℝ) : EReal) = _
    rw [← EReal.coe_sub]; norm_num
  rw [e, if_pos (EReal.coe_pos.2 (by norm_num)), c1536]
theorem kLn_eq (y g b : FVec Ideal S1x1536 .f32) : kLn y g b = rLn y g b := by
  unfold kLn rLn; rw [kCen_eq, rVar_eq]; funext i; idx_vars i; pointwise! []

/-- The second layer after the norm. -/
def kOut (y g b : FVec Ideal S1x1536 .f32) (w : FVec Ideal S1536x768 .f32) : FVec Ideal S1x768 .f32 :=
  matmul dot_S1x1536_S1536x768_S1x768_1_0_0_1_n_n none (kLn y g b) w (constant S1x768 .f32 0x00000000#32)
theorem kOut_eq (y g b : FVec Ideal S1x1536 .f32) (w : FVec Ideal S1536x768 .f32) (b2 : FVec Ideal S1x768 .f32) : addf (kOut y g b w) b2 = rOut y g b w b2 := by
  unfold kOut rOut; rw [kLn_eq]; funext i; idx_vars i; pointwise! []

/-- The knowledge encoder. -/
theorem pay10_eq (x o bo : FVec Ideal S1x768 .f32) (wo : FVec Ideal S768x768 .f32) (w1 : FVec Ideal S768x1536 .f32) (b1 g be : FVec Ideal S1x1536 .f32) (w2 : FVec Ideal S1536x768 .f32) :
    k0_pay10 x bo o wo b1 g be w1 w2 = kOut (rHid x o wo bo w1 b1) g be w2 := by
  have e : rHid x o wo bo w1 b1 = addf (matmul dot_S1x768_S768x1536_S1x1536_1_0_0_1_n_n none (addf x (addf (matmul dot_S1x768_S768x768_S1x768_1_0_0_1_n_n none o wo (constant S1x768 .f32 0x00000000#32)) bo)) w1 (constant S1x1536 .f32 0x00000000#32)) b1 := by
    funext i; idx_vars i; pointwise! [rHid]
  rw [e]; unfold k0_pay10; simp only [shapeCast_self]; rfl

theorem sem_eq (x o bo b2 : FVec Ideal S1x768 .f32) (wo : FVec Ideal S768x768 .f32) (w1 : FVec Ideal S768x1536 .f32) (b1 g be : FVec Ideal S1x1536 .f32) (w2 : FVec Ideal S1536x768 .f32) :
    k0_pay19 (k0_pay5 b2) (k0_pay10 x (k0_pay4 bo) o wo b1 g be w1 w2) = rOut (rHid x o wo bo w1 b1) g be w2 b2 := by
  rw [← kOut_eq, ← pay10_eq]; unfold k0_pay19 k0_pay5 k0_pay4; simp only [shapeCast_self]

/-- The fusion. -/
theorem out_eq (b1 g be : FVec Ideal S1x1536 .f32) (b2 s p : FVec Ideal S1x768 .f32) (w1 : FVec Ideal S1536x1536 .f32) (w2 : FVec Ideal S1536x768 .f32) :
    k0_pay2 (k0_pay11 g) (k0_pay12 be) (k0_pay13 b2) (k0_pay16 b1 s p w1) (k0_pay17 b1 s p w1) w2 = rOut (k0_pay14 b1 s p w1) g be w2 b2 := by
  rw [← kOut_eq]; unfold k0_pay2 k0_pay11 k0_pay12 k0_pay13; simp only [shapeCast_self]; rfl

theorem cat4 (f : Fin 3072 → EReal) (a b : Fin 768 → EReal) (h0 : ∀ t : Fin 3072, t.val < 1536 → f t = 0)
    (ha : ∀ t : Fin 768, f ⟨1536 + t.val, by omega⟩ = a t) (hb : ∀ t : Fin 768, f ⟨2304 + t.val, by omega⟩ = b t) : ∑ t, f t = ∑ t, a t + ∑ t, b t := by
  rw [Fin.sum_univ_tiles 4 768 rfl, Fin.sum_univ_four, Finset.sum_eq_zero (fun t _ => h0 _ (by have := t.2; simp; omega)),
    Finset.sum_eq_zero (fun t _ => h0 _ (by have := t.2; simp; omega)), zero_add, zero_add]
  refine congrArg₂ (· + ·) (Finset.sum_congr rfl fun t _ => ?_) (Finset.sum_congr rfl fun t _ => ?_)
  · rw [← ha]; rfl
  · rw [← hb]; rfl

theorem fu_eq (b1 : FVec Ideal S1x1536 .f32) (s p : FVec Ideal S1x768 .f32) (w : FVec Ideal S3072x1536 .f32) (w1 : FVec Ideal S1536x1536 .f32)
    (hw : ∀ (r : Fin 1536) (l : Fin 1536), w1 (ix2 r l) = w (ix2 ⟨1536 + r.val, by omega⟩ l)) : k0_pay14 b1 s p w1 = rFu s p w b1 := by
  funext i; idx_vars i; pointwise [k0_pay14, rFu]
  congr 1
  refine (cat4 _ _ _ (fun t h => ?_) (fun t => ?_) (fun t => ?_)).symm
  · by_cases h1 : t.val < 768
    · rw [dif_pos h1, zero_mul]
    · rw [dif_neg h1, dif_pos (by omega), zero_mul]
  · rw [dif_neg (by simp only [Fin.val_mk]; omega), dif_neg (by simp only [Fin.val_mk]; omega), dif_pos (by simp only [Fin.val_mk]; omega), hw]
    congr 2; congr 1; apply Fin.ext; simp only [Fin.val_mk]; omega
  · rw [dif_neg (by simp only [Fin.val_mk]; omega), dif_neg (by simp only [Fin.val_mk]; omega), dif_neg (by simp only [Fin.val_mk]; omega), hw]
    congr 2
    · congr 1; apply Fin.ext; simp only [Fin.val_mk]; omega
    · congr 1; apply Fin.ext; simp only [Fin.val_mk]; omega

/-- The selector. -/
theorem sco_eq (x : FVec Ideal S1x768 .f32) (b : FVec Ideal S1x50 .f32) (w : FVec Ideal S768x50 .f32) :
    addf (matmul dot_S1x768_S768x50_S1x50_1_0_0_1_n_n none x w (constant S1x50 .f32 0x00000000#32)) b = rSco x w b := by
  funext i; idx_vars i; pointwise! [rSco]
theorem pay18_eq (x : FVec Ideal S1x768 .f32) (b : FVec Ideal S1x50 .f32) (w : FVec Ideal S768x50 .f32) : k0_pay18 x b w = rSm (rSco x w b) := by
  rw [← sco_eq]; unfold k0_pay18; simp only [shapeCast_self]
  generalize addf (matmul _ none x w _) b = s
  funext i; idx_vars i; pointwise [rSm, rSE, cNegInf]
  simp only [bot_sup_eq]

end Cert.KernelIdeal.Val

end
-- ==== Proof.Value.Skill.lean ====
/- One skill's share of the mixture, in the kernel's form and in the reference's. -/
module

public import proofs.«01_k».proof.Proof.Gen.KernelIdeal.Skeleton
public import proofs.«01_k».proof.Proof.Value.Ref
public import Idealize.ShloMosaic.Lib.Pointwise

@[expose] public section

set_option maxRecDepth 16384

noncomputable section

namespace Cert.KernelIdeal.Val

open Cert.KernelIdeal Cert.KernelIdeal.Gen Cert.ReferenceIdeal.Hand Idealize.ShloMosaic

/-- Skill `n`'s share: its score times the two-layer net's result. -/
def share (x : FVec Ideal S1x768 .f32) (p : FVec Ideal S1x50 .f32) (w1 : FVec Ideal S50x768x768 .f32) (b1 : FVec Ideal S50x768 .f32) (w2 : FVec Ideal S50x768x768 .f32) (b2 : FVec Ideal S50x768 .f32)
    (l : Fin 768) (n : Fin 50) : EReal :=
  p (ix2 0 n) * (∑ k : Fin 768, max (∑ j : Fin 768, x (ix2 0 j) * w1 (ix3 n j k) + b1 (ix2 n k)) 0 * w2 (ix3 n k l) + b2 (ix2 n l))

theorem proc_eq (x : FVec Ideal S1x768 .f32) (p : FVec Ideal S1x50 .f32) (w1 : FVec Ideal S50x768x768 .f32) (b1 : FVec Ideal S50x768 .f32) (w2 : FVec Ideal S50x768x768 .f32) (b2 : FVec Ideal S50x768 .f32)
    (r : Fin 1) (l : Fin 768) : rProc x p w1 b1 w2 b2 (ix2 r l) = ∑ n : Fin 50, share x p w1 b1 w2 b2 l n := by
  pointwise! [rProc, share]

/-- The sum of the scores under the mask of skill `n` is its score. -/
theorem masked (s : Fin 50 → EReal) (n : Fin 50) (w : BitVec 32) (hw : w = BitVec.ofNat 32 n.val) :
    ∑ k : Fin 50, Scalar.select (IntOp.cmpi .eq (BitVec.ofNat 32 k.val) w) (s k) 0 = s n := by
  have e : ∀ k : Fin 50, Scalar.select (IntOp.cmpi .eq (BitVec.ofNat 32 k.val) w) (s k) 0 = if k = n then s k else 0 := by
    intro k; subst hw
    have h : (BitVec.ofNat 32 k.val = BitVec.ofNat 32 n.val) ↔ k = n := by
      refine ⟨fun e => Fin.ext ?_, fun e => e ▸ rfl⟩
      have := congrArg BitVec.toNat e
      simpa only [BitVec.toNat_ofNat, Nat.mod_eq_of_lt (show k.val < 2 ^ 32 by omega), Nat.mod_eq_of_lt (show n.val < 2 ^ 32 by omega)] using this
    unfold Scalar.select
    by_cases hk : k = n
    · subst hk; simp [IntOp.cmpi]
    · have := beq_eq_false_iff_ne.2 (mt h.1 hk); simp only [IntOp.cmpi, this, if_neg hk]; rfl
  rw [Finset.sum_congr rfl fun k _ => e k]; simp

theorem pay21_eq (x : FVec Ideal S1x768 .f32) (p : FVec Ideal S1x50 .f32) (a : BitVec 32) (n : Fin 50) (hn : Scalar.addi (Scalar.muli (2#32) a) 0#32 = BitVec.ofNat 32 n.val)
    (b1 b2 : FVec Ideal S1x768 .f32) (w1 w2 : FVec Ideal S1x768x768 .f32) (r : Fin 1) (l : Fin 768) :
    k0_pay21 x p (k0_pay20 a) b1 b2 w1 w2 (ix2 r l) = p (ix2 0 n) * (∑ k : Fin 768, max (∑ j : Fin 768, x (ix2 0 j) * w1 (ix3 0 j k) + b1 (ix2 0 k)) 0 * w2 (ix3 0 k l) + b2 (ix2 0 l)) := by
  obtain rfl : r = 0 := Subsingleton.elim _ _
  pointwise [k0_pay21, k0_pay20]
  rw [Fin.sum_univ_one, masked (fun k => p (ix2 0 k)) n _ hn]
theorem pay22_eq (x : FVec Ideal S1x768 .f32) (p : FVec Ideal S1x50 .f32) (o : FVec Ideal S1x768 .f32) (a : BitVec 32) (n : Fin 50) (hn : a = BitVec.ofNat 32 n.val)
    (b1 b2 : FVec Ideal S1x768 .f32) (w1 w2 : FVec Ideal S1x768x768 .f32) (r : Fin 1) (l : Fin 768) :
    k0_pay22 x p (iota .tc S1x50 32 [1] iota_S1x50_d1_w32) o a b1 b2 w1 w2 (ix2 r l) = o (ix2 r l) + p (ix2 0 n) * (∑ k : Fin 768, max (∑ j : Fin 768, x (ix2 0 j) * w1 (ix3 0 j k) + b1 (ix2 0 k)) 0 * w2 (ix3 0 k l) + b2 (ix2 0 l)) := by
  obtain rfl : r = 0 := Subsingleton.elim _ _
  pointwise [k0_pay22]
  rw [Fin.sum_univ_one, masked (fun k => p (ix2 0 k)) n _ hn]

end Cert.KernelIdeal.Val

end
-- ==== Proof.Value.Real.lean ====
/- The attention over the reals: the keys' bias drops out of the softmax, the values' out of the mean. -/
module

public import Idealize.ShloMosaic.Lib.Pointwise

@[expose] public section

noncomputable section

namespace Cert.KernelIdeal.Val

open Idealize.ShloMosaic

theorem sum_real {n : ℕ} (f : Fin n → ℝ) : ∑ i, ((f i : ℝ) : EReal) = ((∑ i, f i : ℝ) : EReal) :=
  (map_sum (⟨⟨Real.toEReal, EReal.coe_zero⟩, EReal.coe_add⟩ : ℝ →+ EReal) f Finset.univ).symm

/-- The softmax of real logits, whatever real number is taken off them first. -/
theorem softmax_sub {n : ℕ} (g : Fin n → ℝ) (i : Fin n) (r : ℝ) :
    Ideal.div (Ideal.exp (((g i : ℝ) : EReal) - (r : EReal))) (∑ k, Ideal.exp (((g k : ℝ) : EReal) - (r : EReal))) = ((Real.exp (g i) / ∑ k, Real.exp (g k) : ℝ) : EReal) := by
  simp only [← EReal.coe_sub, Ideal.exp_coe, sum_real]
  have hp : 0 < ∑ k, Real.exp (g k - r) := Finset.sum_pos (fun k _ => Real.exp_pos _) ⟨i, Finset.mem_univ _⟩
  have hq : 0 < ∑ k, Real.exp (g k) := Finset.sum_pos (fun k _ => Real.exp_pos _) ⟨i, Finset.mem_univ _⟩
  rw [Ideal.div_coe hp.ne', ← EReal.coe_mul]
  congr 1
  have e : ∑ k, Real.exp (g k - r) = (∑ k, Real.exp (g k)) * Real.exp (-r) := by
    rw [Finset.sum_mul]; exact Finset.sum_congr rfl fun k _ => by rw [← Real.exp_add, sub_eq_add_neg]
  have he := (Real.exp_pos (-r)).ne'
  rw [e, sub_eq_add_neg, Real.exp_add]; field_simp

theorem fold_real {n : ℕ} [NeZero n] (g : Fin n → ℝ) : ∃ r : ℝ, Finset.univ.fold max (⊥ : EReal) (fun k => ((g k : ℝ) : EReal)) = (r : EReal) := by
  obtain ⟨k, -, hk⟩ := Finset.exists_mem_eq_sup (Finset.univ : Finset (Fin n)) ⟨0, Finset.mem_univ _⟩ (fun k => ((g k : ℝ) : EReal))
  exact ⟨g k, hk⟩

theorem softmax_real {n : ℕ} [NeZero n] (g : Fin n → ℝ) (i : Fin n) :
    Ideal.div (Ideal.exp (((g i : ℝ) : EReal) - Finset.univ.fold max (⊥ : EReal) (fun k => ((g k : ℝ) : EReal)))) (∑ k, Ideal.exp (((g k : ℝ) : EReal) - Finset.univ.fold max (⊥ : EReal) (fun k => ((g k : ℝ) : EReal))))
      = ((Real.exp (g i) / ∑ k, Real.exp (g k) : ℝ) : EReal) := by
  obtain ⟨r, hr⟩ := fold_real g
  rw [hr]; exact softmax_sub g i r

/-- A number added to every logit changes no weight. -/
theorem softmax_shift {n : ℕ} (g : Fin n → ℝ) (b : ℝ) (i : Fin n) : Real.exp (g i + b) / ∑ k, Real.exp (g k + b) = Real.exp (g i) / ∑ k, Real.exp (g k) := by
  have hq : 0 < ∑ k, Real.exp (g k) := Finset.sum_pos (fun k _ => Real.exp_pos _) ⟨i, Finset.mem_univ _⟩
  have he := (Real.exp_pos b).ne'
  simp only [Real.exp_add, ← Finset.sum_mul]; field_simp

/-- Over weights that are positive and sum to one, a bias added to every value is added to the mean. -/
theorem mean_bias {n : ℕ} [NeZero n] (v p : Fin n → ℝ) (b : EReal) (hp : ∀ i, 0 < p i) (h1 : ∑ i, p i = 1) :
    ∑ i, (((v i : ℝ) : EReal) + b) * ((p i : ℝ) : EReal) = ((∑ i, v i * p i : ℝ) : EReal) + b := by
  induction b with
  | coe b =>
    simp only [← EReal.coe_add, ← EReal.coe_mul, sum_real]
    congr 1; simp only [add_mul, Finset.sum_add_distrib, ← Finset.mul_sum, h1, mul_one]
  | top =>
    simp only [EReal.coe_add_top, EReal.top_mul_coe_of_pos (hp _)]
    rw [Finset.sum_const, Finset.card_univ, Fintype.card_fin]
    obtain ⟨m, hm⟩ := Nat.exists_eq_succ_of_ne_zero (NeZero.ne n)
    rw [hm, succ_nsmul]
    have : ∀ m : ℕ, m • (⊤ : EReal) ≠ ⊥ := by
      intro m; induction m with
      | zero => simp
      | succ m ih => rw [succ_nsmul, EReal.add_top_of_ne_bot ih]; simp
    exact EReal.add_top_of_ne_bot (this m)
  | bot =>
    simp only [EReal.add_bot, EReal.bot_mul_coe_of_pos (hp _)]
    rw [Finset.sum_const, Finset.card_univ, Fintype.card_fin]
    obtain ⟨m, hm⟩ := Nat.exists_eq_succ_of_ne_zero (NeZero.ne n)
    rw [hm, succ_nsmul, EReal.add_bot]

/-- Head `h`'s part of a row of 768: the lanes from `96 h` on. -/
theorem head_sum (h : Fin 8) (f : Fin 768 → ℝ) : ∑ d : Fin 768, (if d.val / 96 = h.val then f d else 0) = ∑ t : Fin 96, f ⟨h.val * 96 + t.val, by omega⟩ := by
  rw [Fin.sum_univ_tiles 8 96 rfl, Finset.sum_eq_single h]
  · exact Finset.sum_congr rfl fun t _ => if_pos (by simp only [Fin.val_mk]; omega)
  · intro j _ hj
    have : j.val ≠ h.val := fun e => hj (Fin.ext e)
    exact Finset.sum_eq_zero fun t _ => if_neg (by simp only [Fin.val_mk]; omega)
  · intro hn; exact absurd (Finset.mem_univ _) hn

/-- The reference's logit is the kernel's and a number that no concept enters. -/
theorem logit_eq (h : Fin 8) (q bk : Fin 768 → ℝ) (c : Fin 768 → ℝ) (wk : Fin 768 → Fin 768 → ℝ) (s : ℝ) :
    (∑ t : Fin 96, q ⟨h.val * 96 + t.val, by omega⟩ * (∑ j, c j * wk j ⟨h.val * 96 + t.val, by omega⟩ + bk ⟨h.val * 96 + t.val, by omega⟩)) * (1 / s)
      = (∑ j, c j * ∑ d, wk j d * ((if d.val / 96 = h.val then 1 else 0) * q d)) * s⁻¹ + (∑ t : Fin 96, q ⟨h.val * 96 + t.val, by omega⟩ * bk ⟨h.val * 96 + t.val, by omega⟩) * s⁻¹ := by
  have e : ∀ j, ∑ d, wk j d * ((if d.val / 96 = h.val then 1 else 0) * q d) = ∑ t : Fin 96, wk j ⟨h.val * 96 + t.val, by omega⟩ * q ⟨h.val * 96 + t.val, by omega⟩ := fun j => by
    rw [← head_sum h (fun d => wk j d * q d)]
    exact Finset.sum_congr rfl fun d _ => by split_ifs <;> simp
  simp only [e]
  rw [one_div, ← add_mul]; congr 1
  simp only [mul_add, Finset.sum_add_distrib, Finset.mul_sum]
  congr 1
  rw [Finset.sum_comm]
  exact Finset.sum_congr rfl fun j _ => Finset.sum_congr rfl fun t _ => by ring

end Cert.KernelIdeal.Val

end
-- ==== Proof.Value.Att.lean ====
/- The kernel's attention is the reference's where what it is computed from is finite. -/
module

public import proofs.«01_k».proof.Proof.Gen.KernelIdeal.Skeleton
public import proofs.«01_k».proof.Proof.Value.Ref
public import proofs.«01_k».proof.Proof.Value.Blocks
public import proofs.«01_k».proof.Proof.Value.Real
public import Idealize.ShloMosaic.Lib.Pointwise

@[expose] public section

set_option maxRecDepth 16384

noncomputable section

namespace Cert.KernelIdeal.Val

open Cert.KernelIdeal Cert.KernelIdeal.Gen Cert.ReferenceIdeal.Hand Idealize.ShloMosaic

/-! ## The mask of the heads -/

/-- The head each lane belongs to, as the kernel computes it. -/
def kHead : IVec S8x768 32 :=
  select (andi (cmpi .ne k0_pay8 (broadcast S8x768 (Scalar.subi (Scalar.extui (Scalar.cmpi .sgt 96#32 0#32)) (Scalar.extui (Scalar.cmpi .slt 96#32 0#32)))))
      (cmpi .ne (remsi (iota .tc S8x768 32 [1] iota_S8x768_d1_w32) (broadcast S8x768 96#32)) (broadcast S8x768 0#32)))
    (subi k0_pay7 (broadcast S8x768 1#32)) k0_pay7
def kMask : FVec Ideal S8x768 .f32 := sitofp .f32 (extui 32 (cmpi .eq kHead (iota .tc S8x768 32 [0] iota_S8x768_d0_w32)) natLt_1_32)

/-- The lane's word of that head. -/
def headW (l : BitVec 32) : BitVec 32 :=
  Scalar.select (IntOp.andi (IntOp.cmpi .ne (IntOp.subi (BitVec.setWidth 32 (IntOp.cmpi .sgt l 0#32)) (BitVec.setWidth 32 (IntOp.cmpi .slt l 0#32)))
      (Scalar.subi (Scalar.extui (Scalar.cmpi .sgt 96#32 0#32)) (Scalar.extui (Scalar.cmpi .slt 96#32 0#32)))) (IntOp.cmpi .ne (IntOp.remsi .vector l 96#32) 0#32))
    (IntOp.subi (IntOp.divsi .vector l 96#32) 1#32) (IntOp.divsi .vector l 96#32)
theorem headW_eq : ∀ l : Fin 768, headW (BitVec.ofNat 32 l.val) = BitVec.ofNat 32 (l.val / 96) := by decide +kernel
theorem eqW : ∀ a h : Fin 8, BitVec.setWidth 32 (IntOp.cmpi .eq (BitVec.ofNat 32 a.val) (BitVec.ofNat 32 h.val)) = if a.val = h.val then 1#32 else 0#32 := by decide +kernel

theorem kMask_eq (h : Fin 8) (l : Fin 768) : kMask (ix2 h l) = (((if l.val / 96 = h.val then 1 else 0 : ℝ)) : EReal) := by
  have e : kMask (ix2 h l) = FloatOps.sitofp (F := Ideal) .f32 (BitVec.setWidth 32 (IntOp.cmpi .eq (headW (BitVec.ofNat 32 l.val)) (BitVec.ofNat 32 h.val))) := by
    pointwise! [kMask, kHead, headW, k0_pay7, k0_pay8]
  have he := eqW ⟨l.val / 96, by omega⟩ h
  rw [e, headW_eq, he]
  show (((if l.val / 96 = h.val then 1#32 else 0#32 : BitVec 32).toInt : ℝ) : EReal) = _
  split_ifs <;> simp

/-! ## The kernel's attention over a mask -/

def kLog (M : FVec Ideal S8x768 .f32) (q : FVec Ideal S1x768 .f32) (wk : FVec Ideal S768x768 .f32) (c : FVec Ideal S1000x768 .f32) : FVec Ideal S1000x8 .f32 :=
  mulf (matmul dot_S1000x768_S768x8_S1000x8_1_0_0_1_n_n none c (matmul dot_S768x768_S8x768_S768x8_1_1_0_0_n_n none wk (mulf M (broadcastTo S8x768 q broadcasts_S1x768_S8x768)) (constant S768x8 .f32 0x00000000#32)) (constant S1000x8 .f32 0x00000000#32))
    (broadcast S1000x8 (Named.named κ "inv_sqrt_hd" 0x3DD105EC#32))
def kE (L : FVec Ideal S1000x8 .f32) : FVec Ideal S1000x8 .f32 :=
  exp (subf L (broadcastTo S1000x8 (shapeCast S1x8 (multiReduction .maximumf [0] S8 L 0xFF800000#32 reduces_S1000x8_S8 (.inl rfl) rfl) shapeCasts_S8_S1x8) broadcasts_S1x8_S1000x8))
def kW (L : FVec Ideal S1000x8 .f32) : FVec Ideal S1000x8 .f32 :=
  divf (kE L) (broadcastTo S1000x8 (shapeCast S1x8 (multiReduction .add [0] S8 (kE L) 0x00000000#32 reduces_S1000x8_S8 (.inl rfl) rfl) shapeCasts_S8_S1x8) broadcasts_S1x8_S1000x8)
def kAtt (M : FVec Ideal S8x768 .f32) (w : FVec Ideal S1000x8 .f32) (c : FVec Ideal S1000x768 .f32) (wv : FVec Ideal S768x768 .f32) (bv : FVec Ideal S1x768 .f32) : FVec Ideal S1x768 .f32 :=
  addf (shapeCast S1x768 (multiReduction .add [0] S768 (mulf (matmul dot_S8x768_S768x768_S8x768_1_0_0_1_n_n none (matmul dot_S1000x8_S1000x768_S8x768_0_0_1_1_n_n none w c (constant S8x768 .f32 0x00000000#32)) wv (constant S8x768 .f32 0x00000000#32)) M) 0x00000000#32 reduces_S8x768_S768 (.inl rfl) rfl) shapeCasts_S768_S1x768) bv

theorem pay9_eq (bv q : FVec Ideal S1x768 .f32) (wk : FVec Ideal S768x768 .f32) (c c' : FVec Ideal S1000x768 .f32) (wv : FVec Ideal S768x768 .f32) :
    k0_pay9 bv q (iota .tc S8x768 32 [0] iota_S8x768_d0_w32) (iota .tc S8x768 32 [1] iota_S8x768_d1_w32) 96#32 k0_pay7 k0_pay8 (Scalar.extui (Scalar.cmpi .sgt 96#32 0#32)) wk c c' wv
      = kAtt kMask (kW (kLog kMask q wk c)) c' wv bv := rfl

/-! ## Over real numbers -/

theorem kappa : (Named.named (F := Ideal) (φ := .f32) κ "inv_sqrt_hd" 0x3DD105EC#32 : EReal) = (((Real.sqrt 96)⁻¹ : ℝ) : EReal) := rfl
theorem root96 : Ideal.sqrt (Ideal.ofBits .f32 0x42C00000#32) = ((Real.sqrt 96 : ℝ) : EReal) := by
  rw [c96]; exact if_neg (by norm_num)

section
variable (q : FVec Ideal S1x768 .f32) (c : FVec Ideal S1000x768 .f32) (wk wv : FVec Ideal S768x768 .f32) (bk bv : FVec Ideal S768 .f32)
  (q' : Fin 768 → ℝ) (c' : Fin 1000 → Fin 768 → ℝ) (wk' wv' : Fin 768 → Fin 768 → ℝ) (bk' : Fin 768 → ℝ)
  (hq : ∀ d, q (ix2 0 d) = (q' d : EReal)) (hc : ∀ i j, c (ix2 i j) = (c' i j : EReal)) (hk : ∀ i j, wk (ix2 i j) = (wk' i j : EReal)) (hv : ∀ i j, wv (ix2 i j) = (wv' i j : EReal)) (hb : ∀ d, bk (ix1 d) = (bk' d : EReal))

/-- A logit of head `h`, the kernel's. -/
def gK (q' : Fin 768 → ℝ) (c' : Fin 1000 → Fin 768 → ℝ) (wk' : Fin 768 → Fin 768 → ℝ) (h : Fin 8) (i : Fin 1000) : ℝ :=
  (∑ j, c' i j * ∑ d, wk' j d * ((if d.val / 96 = h.val then 1 else 0) * q' d)) * (Real.sqrt 96)⁻¹
/-- Its weight. -/
def pK (q' : Fin 768 → ℝ) (c' : Fin 1000 → Fin 768 → ℝ) (wk' : Fin 768 → Fin 768 → ℝ) (h : Fin 8) (i : Fin 1000) : ℝ :=
  Real.exp (gK q' c' wk' h i) / ∑ k, Real.exp (gK q' c' wk' h k)

include hq hc hk in
theorem kLog_real (i : Fin 1000) (h : Fin 8) : kLog kMask q wk c (ix2 i h) = (gK q' c' wk' h i : EReal) := by
  have e : kLog kMask q wk c (ix2 i h) = (∑ j, c (ix2 i j) * ∑ d, wk (ix2 j d) * (kMask (ix2 h d) * q (ix2 0 d))) * Named.named (F := Ideal) (φ := .f32) κ "inv_sqrt_hd" 0x3DD105EC#32 := by
    pointwise! [kLog]
  rw [e, kappa]
  simp only [hq, hc, hk, kMask_eq, ← EReal.coe_mul, sum_real]; rfl

include hq hc hk in
theorem kW_real (i : Fin 1000) (h : Fin 8) : kW (kLog kMask q wk c) (ix2 i h) = (pK q' c' wk' h i : EReal) := by
  have e : ∀ L : FVec Ideal S1000x8 .f32, kW L (ix2 i h) = Ideal.div (Ideal.exp (L (ix2 i h) - Finset.univ.fold max ⊥ (fun k => L (ix2 k h)))) (∑ t, Ideal.exp (L (ix2 t h) - Finset.univ.fold max ⊥ (fun k => L (ix2 k h)))) := by
    intro L; pointwise! [kW, kE, cNegInf]
  rw [e]
  simp only [kLog_real q c wk q' c' wk' hq hc hk]
  exact softmax_real (fun i => gK q' c' wk' h i) i

include hq hc hk hb in
theorem rLog_real (h : Fin 8) (i : Fin 1000) : rLog q (rKV c wk bk) (ix3 h 0 i)
    = ((gK q' c' wk' h i + (∑ t : Fin 96, q' ⟨h.val * 96 + t.val, by omega⟩ * bk' ⟨h.val * 96 + t.val, by omega⟩) * (Real.sqrt 96)⁻¹ : ℝ) : EReal) := by
  have e : rLog q (rKV c wk bk) (ix3 h 0 i) = Ideal.div (∑ t : Fin 96, q (ix2 0 ⟨h.val * 96 + t.val, by omega⟩) * (∑ j, c (ix2 i j) * wk (ix2 j ⟨h.val * 96 + t.val, by omega⟩) + bk (ix1 ⟨h.val * 96 + t.val, by omega⟩))) (Ideal.sqrt (Ideal.ofBits .f32 0x42C00000#32)) := by
    pointwise! [rLog, rKV]
  have hs : Real.sqrt 96 ≠ 0 := (Real.sqrt_pos.2 (by norm_num)).ne'
  rw [e, root96, Ideal.div_coe hs]
  simp only [hq, hc, hk, hb, ← EReal.coe_mul, ← EReal.coe_add, sum_real]
  rw [logit_eq h q' bk' (c' i) wk' (Real.sqrt 96)]; rfl

include hq hc hk hb in
theorem rW_real (h : Fin 8) (i : Fin 1000) : rW (rLog q (rKV c wk bk)) (ix3 h 0 i) = (pK q' c' wk' h i : EReal) := by
  have e : ∀ L : FVec Ideal ReferenceIdeal.S8x1x1000 .f32, rW L (ix3 h 0 i) = Ideal.div (Ideal.exp (L (ix3 h 0 i) - Finset.univ.fold max ⊥ (fun k => L (ix3 h 0 k)))) (∑ t, Ideal.exp (L (ix3 h 0 t) - Finset.univ.fold max ⊥ (fun k => L (ix3 h 0 k)))) := by
    intro L; pointwise [rW, rE, cNegInf]; simp only [bot_sup_eq]
  rw [e]
  simp only [rLog_real q c wk bk q' c' wk' bk' hq hc hk hb]
  rw [softmax_real (fun i => gK q' c' wk' h i + _) i, softmax_shift]; rfl

theorem pK_pos (h : Fin 8) (i : Fin 1000) : 0 < pK q' c' wk' h i :=
  div_pos (Real.exp_pos _) (Finset.sum_pos (fun k _ => Real.exp_pos _) ⟨i, Finset.mem_univ _⟩)
theorem pK_sum (h : Fin 8) : ∑ i, pK q' c' wk' h i = 1 := by
  unfold pK; rw [← Finset.sum_div]
  exact div_self (Finset.sum_pos (fun k _ => Real.exp_pos _) ⟨0, Finset.mem_univ _⟩).ne'

/-- What is attended, from the weights. -/
def oK (p : Fin 8 → Fin 1000 → ℝ) (c' : Fin 1000 → Fin 768 → ℝ) (wv' : Fin 768 → Fin 768 → ℝ) (l : Fin 768) : ℝ :=
  ∑ i, (∑ j, c' i j * wv' j l) * p ⟨l.val / 96, by omega⟩ i

include hc hv in
theorem kAtt_real (w : FVec Ideal S1000x8 .f32) (p : Fin 8 → Fin 1000 → ℝ) (hw : ∀ i h, w (ix2 i h) = (p h i : EReal)) (b : FVec Ideal S1x768 .f32) (r : Fin 1) (l : Fin 768) :
    kAtt kMask w c wv b (ix2 r l) = (oK p c' wv' l : EReal) + b (ix2 r l) := by
  have e : kAtt kMask w c wv b (ix2 r l) = ∑ h : Fin 8, (∑ j, (∑ i, w (ix2 i h) * c (ix2 i j)) * wv (ix2 j l)) * kMask (ix2 h l) + b (ix2 r l) := by
    pointwise! [kAtt]
  rw [e]; congr 1
  simp only [hw, hc, hv, kMask_eq, ← EReal.coe_mul, sum_real]
  congr 1
  rw [Finset.sum_eq_single (⟨l.val / 96, by omega⟩ : Fin 8)]
  · rw [if_pos rfl, mul_one]; unfold oK
    simp only [Finset.sum_mul]
    rw [Finset.sum_comm]
    exact Finset.sum_congr rfl fun i _ => Finset.sum_congr rfl fun j _ => by ring
  · intro h _ hh
    rw [if_neg (fun e => hh (Fin.ext e.symm)), mul_zero]
  · intro hn; exact absurd (Finset.mem_univ _) hn

include hc hv in
theorem rO_real (w : FVec Ideal ReferenceIdeal.S8x1x1000 .f32) (p : Fin 8 → Fin 1000 → ℝ) (hw : ∀ h i, w (ix3 h 0 i) = (p h i : EReal)) (hp : ∀ h i, 0 < p h i) (h1 : ∀ h, ∑ i, p h i = 1) (r : Fin 1) (l : Fin 768) :
    rO (rKV c wv bv) w (ix2 r l) = (oK p c' wv' l : EReal) + bv (ix1 l) := by
  have e : rO (rKV c wv bv) w (ix2 r l) = ∑ i, (∑ j, c (ix2 i j) * wv (ix2 j l) + bv (ix1 l)) * w (ix3 ⟨l.val / 96, by omega⟩ 0 i) := by
    pointwise! [rO, rKV]
  rw [e]
  simp only [hw, hc, hv, ← EReal.coe_mul, sum_real]
  exact mean_bias (fun i => ∑ j, c' i j * wv' j l) (p ⟨l.val / 96, by omega⟩) _ (hp _) (h1 _)

include hq hc hk hv hb in
/-- The two attentions. -/
theorem att_real : kAtt kMask (kW (kLog kMask q wk c)) c wv (row768 bv) = rO (rKV c wv bv) (rW (rLog q (rKV c wk bk))) := by
  funext i; idx_vars i
  rw [kAtt_real c wv c' wv' hc hv _ (pK q' c' wk') (kW_real q c wk q' c' wk' hq hc hk),
    rO_real c wv bv c' wv' hc hv _ (pK q' c' wk') (rW_real q c wk bk q' c' wk' bk' hq hc hk hb) (pK_pos q' c' wk') (pK_sum q' c' wk')]
  congr 1
  pointwise [row768]
end

/-- An array of finite numbers is one of real numbers. -/
def AllReal {s : Shape} (v : FVec Ideal s .f32) : Prop := ∀ i, ∃ r : ℝ, v i = (r : EReal)

theorem att_eq (x : FVec Ideal S1x768 .f32) (c : FVec Ideal S1000x768 .f32) (wq : FVec Ideal S768x768 .f32) (bq : FVec Ideal S768 .f32) (wk : FVec Ideal S768x768 .f32) (bk : FVec Ideal S768 .f32)
    (wv : FVec Ideal S768x768 .f32) (bv : FVec Ideal S768 .f32) (hx : AllReal x) (hc : AllReal c) (hwq : AllReal wq) (hbq : AllReal bq) (hwk : AllReal wk) (hbk : AllReal bk) (hwv : AllReal wv) :
    k0_pay9 (k0_pay3 (row768 bv)) (k0_pay6 x (row768 bq) wq) (iota .tc S8x768 32 [0] iota_S8x768_d0_w32) (iota .tc S8x768 32 [1] iota_S8x768_d1_w32) 96#32 k0_pay7 k0_pay8 (Scalar.extui (Scalar.cmpi .sgt 96#32 0#32)) wk c c wv
      = rAtt x c wq bq wk bk wv bv := by
  have e3 : k0_pay3 (row768 bv) = row768 bv := by unfold k0_pay3; simp only [shapeCast_self]
  rw [pay9_eq, pay6_eq, e3]
  choose x' hx using hx
  choose c' hc using hc
  choose wq' hwq using hwq
  choose bq' hbq using hbq
  choose wk' hwk using hwk
  choose bk' hbk using hbk
  choose wv' hwv using hwv
  refine att_real (rQ x wq (row768 bq)) c wk wv bk bv (fun d => ∑ j, x' (ix2 0 j) * wq' (ix2 j d) + bq' (ix1 d)) (fun i j => c' (ix2 i j)) (fun i j => wk' (ix2 i j)) (fun i j => wv' (ix2 i j)) (fun d => bk' (ix1 d))
    (fun d => ?_) (fun i j => hc _) (fun i j => hwk _) (fun i j => hwv _) (fun d => hbk _)
  have e : rQ x wq (row768 bq) (ix2 0 d) = ∑ j, x (ix2 0 j) * wq (ix2 j d) + bq (ix1 d) := by pointwise! [rQ, row768]
  rw [e]; simp only [hx, hwq, hbq, ← EReal.coe_mul, ← EReal.coe_add, sum_real]

end Cert.KernelIdeal.Val

end
-- ==== Proof.Value.Out.lean ====
/- What the kernel's run leaves is the reference of the arrays it is launched on. -/
module

public import proofs.«01_k».proof.Proof.KI.Run
public import proofs.«01_k».proof.Proof.Value.Pack
public import proofs.«01_k».proof.Proof.Value.Blocks
public import proofs.«01_k».proof.Proof.Value.Skill
public import proofs.«01_k».proof.Proof.Value.Att

@[expose] public section

set_option maxRecDepth 16384

noncomputable section

namespace Cert.KernelIdeal.Val

open Cert.KernelIdeal Cert.KernelIdeal.Gen Cert.KernelIdeal.Hand Cert.ReferenceIdeal.Hand Idealize.ShloMosaic Idealize.ShloMosaic.TcCoe Idealize.SL.Sem

theorem word0 : ∀ n : Fin 25, Scalar.addi (Scalar.muli (2#32) (BitVec.ofNat 32 n.val)) 0#32 = BitVec.ofNat 32 (bk (2 * n.val + 0)).val := by decide +kernel
theorem word1 : ∀ n : Fin 25, Scalar.addi (Scalar.muli (2#32) (BitVec.ofNat 32 n.val)) 1#32 = BitVec.ofNat 32 (bk (2 * n.val + 1)).val := by decide +kernel
theorem bk0 : ∀ n : Fin 25, (bk (2 * n.val + 0)).val = 2 * n.val + 0 := by decide +kernel
theorem bk1 : ∀ n : Fin 25, (bk (2 * n.val + 1)).val = 2 * n.val + 1 := by decide +kernel

section
variable (c : Dev nD) (V : (b : Ref sig .tc) → Buf (Elt Ideal) ((c : Thread nD τ).loc b))
  (b1 b2 : FVec Ideal S50x768 .f32) (hb : sbV c V = skbT b1 b2)

/-- A skill's share, over the buffers. -/
def shareV (b1 b2 : FVec Ideal S50x768 .f32) (l : Fin 768) (n : Fin 50) : EReal := share (xV c V) (scV c V) (V main_arg18) b1 (V main_arg20) b2 l n

include hb in
theorem con_eq (i : grid0.Coords) (r : Fin 1) (l : Fin 768) :
    (conV c V i : FVec Ideal S1x768 .f32) (ix2 r l) = shareV c V b1 b2 l (bk (2 * (i 0).val + 0)) + shareV c V b1 b2 l (bk (2 * (i 0).val + 1)) := by
  have hi : (i 0).val < 25 := (i 0).isLt
  have o5 : ∀ r : Fin 2, _ := k0_off5_eq i
  have o6 : ∀ r : Fin 2, _ := k0_off6_eq i
  have e0 := bk0 ⟨_, hi⟩
  have e1 := bk1 ⟨_, hi⟩
  unfold conV
  rw [pay22_eq _ _ _ _ (bk (2 * (i 0).val + 1)) (word1 ⟨_, hi⟩), pay21_eq _ _ _ (bk (2 * (i 0).val + 0)) (word0 ⟨_, hi⟩)]
  unfold shareV share
  unfold sbRow
  rw [hb]
  refine congrArg₂ (· + ·) ?_ ?_
  · refine congrArg (_ * ·) (congrArg₂ (· + ·) (Finset.sum_congr rfl fun k _ => congrArg₂ (· * ·) (congrArg₂ max (congrArg₂ (· + ·) (Finset.sum_congr rfl fun j _ => congrArg (_ * ·) (blk_read _ _ _ _))
        (skb_lo b1 b2 (bk (2 * (i 0).val + 0)) _ ((o5 0).trans (by rw [e0]; rfl)) _ k)) rfl) (blk_read _ _ _ _)) (skb_hi b1 b2 (bk (2 * (i 0).val + 0)) _ ((o6 0).trans (by rw [e0]; rfl)) _ l))
  · refine congrArg (_ * ·) (congrArg₂ (· + ·) (Finset.sum_congr rfl fun k _ => congrArg₂ (· * ·) (congrArg₂ max (congrArg₂ (· + ·) (Finset.sum_congr rfl fun j _ => congrArg (_ * ·) (blk_read _ _ _ _))
        (skb_lo b1 b2 (bk (2 * (i 0).val + 1)) _ ((o5 1).trans (by rw [e1]; rfl)) _ k)) rfl) (blk_read _ _ _ _)) (skb_hi b1 b2 (bk (2 * (i 0).val + 1)) _ ((o6 1).trans (by rw [e1]; rfl)) _ l))

include hb in
theorem acc_step (n : ℕ) (hn : n < 25) (r : Fin 1) (l : Fin 768) :
    (accV c V n : FVec Ideal S1x768 .f32) (ix2 r l) = ∑ k ∈ Finset.range (n + 1), (shareV c V b1 b2 l (bk (2 * k + 0)) + shareV c V b1 b2 l (bk (2 * k + 1))) := by
  have hc : ∀ (k : ℕ) (h : k < grid0.N), ((grid0.coords ⟨k, h⟩) 0).val = k := by
    exact fun k h => coords_val ⟨k, h⟩
  induction n with
  | zero =>
    unfold accV
    rw [shapeCast_self, con_eq c V b1 b2 hb, hc, Finset.sum_range_one]
  | succ n ih =>
    have h : n + 1 < grid0.N := by rw [N_0]; exact hn
    unfold accV
    rw [dif_pos h, Finset.sum_range_succ, ← ih (by omega)]
    unfold k0_pay1
    rw [shapeCast_self]
    refine congrArg ((accV c V n : FVec Ideal S1x768 .f32) (ix2 r l) + ·) ?_
    rw [con_eq c V b1 b2 hb, hc]

include hb in
theorem acc_eq : (accV c V 24 : FVec Ideal S1x768 .f32) = rProc (xV c V) (scV c V) (V main_arg18) b1 (V main_arg20) b2 := by
  funext i; idx_vars i
  rw [acc_step c V b1 b2 hb 24 (by omega), proc_eq, Fin.sum_univ_tiles 25 2 rfl, Finset.sum_range]
  refine Finset.sum_congr rfl fun k _ => ?_
  rw [Fin.sum_univ_two]
  refine congrArg₂ (· + ·) (congrArg _ (Fin.ext ?_)) (congrArg _ (Fin.ext ?_))
  · rw [bk0]; show 2 * k.val + 0 = k.val * 2 + 0; omega
  · rw [bk1]; show 2 * k.val + 1 = k.val * 2 + 1; omega
end

section
variable (m : (ℓ : Loc nD τ sig) → Buf (Elt Ideal) ℓ) (c : Dev nD)

set_option maxHeartbeats 4000000 in
theorem out_all (hx : AllReal (s := S1x768) (m ((c : Thread nD τ).loc main_arg0))) (hc : AllReal (s := S1000x768) (m ((c : Thread nD τ).loc main_arg1))) (hwq : AllReal (s := S768x768) (m ((c : Thread nD τ).loc main_arg2))) (hbq : AllReal (s := S768) (m ((c : Thread nD τ).loc main_arg3)))
    (hwk : AllReal (s := S768x768) (m ((c : Thread nD τ).loc main_arg4))) (hbk : AllReal (s := S768) (m ((c : Thread nD τ).loc main_arg5))) (hwv : AllReal (s := S768x768) (m ((c : Thread nD τ).loc main_arg6))) :
    (outV c (Vm m c) : FVec Ideal S1x768 .f32) = rAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  have h0 : xV c (Vm m c) = m ((c : Thread nD τ).loc main_arg0) := V_launch m c main_arg0 (by decide)
  have h1 : cV0 c (Vm m c) = m ((c : Thread nD τ).loc main_arg1) := V_launch m c main_arg1 (by decide)
  have h2 : cV1 c (Vm m c) = m ((c : Thread nD τ).loc main_arg2) := V_launch m c main_arg2 (by decide)
  have h4 : cV2 c (Vm m c) = m ((c : Thread nD τ).loc main_arg4) := V_launch m c main_arg4 (by decide)
  have h6 : cV3 c (Vm m c) = m ((c : Thread nD τ).loc main_arg6) := V_launch m c main_arg6 (by decide)
  have h8 : cV4 c (Vm m c) = m ((c : Thread nD τ).loc main_arg8) := V_launch m c main_arg8 (by decide)
  have h10 : cV5 c (Vm m c) = m ((c : Thread nD τ).loc main_arg10) := V_launch m c main_arg10 (by decide)
  have h14 : cV6 c (Vm m c) = m ((c : Thread nD τ).loc main_arg14) := V_launch m c main_arg14 (by decide)
  have h16 : swV c (Vm m c) = m ((c : Thread nD τ).loc main_arg16) := V_launch m c main_arg16 (by decide)
  have h26 : cV8 c (Vm m c) = m ((c : Thread nD τ).loc main_arg26) := V_launch m c main_arg26 (by decide)
  have h18 : Vm m c main_arg18 = m ((c : Thread nD τ).loc main_arg18) := V_launch m c main_arg18 (by decide)
  have h20 : Vm m c main_arg20 = m ((c : Thread nD τ).loc main_arg20) := V_launch m c main_arg20 (by decide)
  have h22 : Vm m c main_arg22 = m ((c : Thread nD τ).loc main_arg22) := V_launch m c main_arg22 (by decide)
  have r0a : pkRow c (Vm m c) ![0, 0] S1x768.size inb_S9x1536_S1x768_0_0 = row768 (m ((c : Thread nD τ).loc main_arg3)) := (congrArg (fun p => VecWindow.window (s := S9x1536) p ![0, 0] S1x768.size inb_S9x1536_S1x768_0_0) (pack_read m c)).trans (row0a _ _ _ _ _ _ _ _ _ _ _ _)
  have r0b : pkRow c (Vm m c) ![0, 768] S1x768.size inb_S9x1536_S1x768_0_768 = row768 (m ((c : Thread nD τ).loc main_arg7)) := (congrArg (fun p => VecWindow.window (s := S9x1536) p ![0, 768] S1x768.size inb_S9x1536_S1x768_0_768) (pack_read m c)).trans (row0b _ _ _ _ _ _ _ _ _ _ _ _)
  have r1a : pkRow c (Vm m c) ![1, 0] S1x768.size inb_S9x1536_S1x768_1_0 = row768 (m ((c : Thread nD τ).loc main_arg9)) := (congrArg (fun p => VecWindow.window (s := S9x1536) p ![1, 0] S1x768.size inb_S9x1536_S1x768_1_0) (pack_read m c)).trans (row1a _ _ _ _ _ _ _ _ _ _ _ _)
  have r1b : pkRow c (Vm m c) ![1, 768] S1x768.size inb_S9x1536_S1x768_1_768 = row768 (m ((c : Thread nD τ).loc main_arg15)) := (congrArg (fun p => VecWindow.window (s := S9x1536) p ![1, 768] S1x768.size inb_S9x1536_S1x768_1_768) (pack_read m c)).trans (row1b _ _ _ _ _ _ _ _ _ _ _ _)
  have r8a : pkRow c (Vm m c) ![8, 0] S1x50.size inb_S9x1536_S1x50_8_0 = row50 (m ((c : Thread nD τ).loc main_arg17)) := (congrArg (fun p => VecWindow.window (s := S9x1536) p ![8, 0] S1x50.size inb_S9x1536_S1x50_8_0) (pack_read m c)).trans (row8a _ _ _ _ _ _ _ _ _ _ _ _)
  have r8b : pkRow c (Vm m c) ![8, 768] S1x768.size inb_S9x1536_S1x768_8_768 = row768 (m ((c : Thread nD τ).loc main_arg27)) := (congrArg (fun p => VecWindow.window (s := S9x1536) p ![8, 768] S1x768.size inb_S9x1536_S1x768_8_768) (pack_read m c)).trans (row8b _ _ _ _ _ _ _ _ _ _ _ _)
  have r2 : pkRow c (Vm m c) ![2, 0] S1x1536.size inb_S9x1536_S1x1536_2_0 = row1536 (m ((c : Thread nD τ).loc main_arg11)) := (congrArg (fun p => VecWindow.window (s := S9x1536) p ![2, 0] S1x1536.size inb_S9x1536_S1x1536_2_0) (pack_read m c)).trans (row2 _ _ _ _ _ _ _ _ _ _ _ _)
  have r3 : pkRow c (Vm m c) ![3, 0] S1x1536.size inb_S9x1536_S1x1536_3_0 = row1536 (m ((c : Thread nD τ).loc main_arg12)) := (congrArg (fun p => VecWindow.window (s := S9x1536) p ![3, 0] S1x1536.size inb_S9x1536_S1x1536_3_0) (pack_read m c)).trans (row3 _ _ _ _ _ _ _ _ _ _ _ _)
  have r4 : pkRow c (Vm m c) ![4, 0] S1x1536.size inb_S9x1536_S1x1536_4_0 = row1536 (m ((c : Thread nD τ).loc main_arg13)) := (congrArg (fun p => VecWindow.window (s := S9x1536) p ![4, 0] S1x1536.size inb_S9x1536_S1x1536_4_0) (pack_read m c)).trans (row4 _ _ _ _ _ _ _ _ _ _ _ _)
  have r5 : pkRow c (Vm m c) ![5, 0] S1x1536.size inb_S9x1536_S1x1536_5_0 = row1536 (m ((c : Thread nD τ).loc main_arg23)) := (congrArg (fun p => VecWindow.window (s := S9x1536) p ![5, 0] S1x1536.size inb_S9x1536_S1x1536_5_0) (pack_read m c)).trans (row5 _ _ _ _ _ _ _ _ _ _ _ _)
  have r6 : pkRow c (Vm m c) ![6, 0] S1x1536.size inb_S9x1536_S1x1536_6_0 = row1536 (m ((c : Thread nD τ).loc main_arg24)) := (congrArg (fun p => VecWindow.window (s := S9x1536) p ![6, 0] S1x1536.size inb_S9x1536_S1x1536_6_0) (pack_read m c)).trans (row6 _ _ _ _ _ _ _ _ _ _ _ _)
  have r7 : pkRow c (Vm m c) ![7, 0] S1x1536.size inb_S9x1536_S1x1536_7_0 = row1536 (m ((c : Thread nD τ).loc main_arg25)) := (congrArg (fun p => VecWindow.window (s := S9x1536) p ![7, 0] S1x1536.size inb_S9x1536_S1x1536_7_0) (pack_read m c)).trans (row7 _ _ _ _ _ _ _ _ _ _ _ _)
  have es : semV c (Vm m c) = rOut (rHid (m ((c : Thread nD τ).loc main_arg0)) (rAtt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (row768 (m ((c : Thread nD τ).loc main_arg9))) (m ((c : Thread nD τ).loc main_arg10)) (row1536 (m ((c : Thread nD τ).loc main_arg11)))) (row1536 (m ((c : Thread nD τ).loc main_arg12))) (row1536 (m ((c : Thread nD τ).loc main_arg13))) (m ((c : Thread nD τ).loc main_arg14)) (row768 (m ((c : Thread nD τ).loc main_arg15))) := by
    delta semV
    rw [h0, h1, h2, h4, h6, h8, h10, h14, r0a, r0b, r1a, r1b, r2, r3, r4, att_eq _ _ _ _ _ _ _ _ hx hc hwq hbq hwk hbk hwv]
    exact sem_eq _ _ _ _ _ _ _ _ _ _
  have ec : scV c (Vm m c) = rSm (rSco (m ((c : Thread nD τ).loc main_arg0)) (m ((c : Thread nD τ).loc main_arg16)) (row50 (m ((c : Thread nD τ).loc main_arg17)))) := by
    delta scV
    rw [h0, h16, r8a]
    exact pay18_eq _ _ _
  have ea := acc_eq c (Vm m c) _ _ (skb_read m c)
  rw [h0, ec, h18, h20] at ea
  delta outV
  rw [es, ea, h26, r5, r6, r7, r8b]
  refine (out_eq _ _ _ _ _ _ _ _).trans ?_
  refine (congrArg (fun z => rOut z _ _ _ _) (fu_eq _ _ _ (m ((c : Thread nD τ).loc main_arg22)) _ (fun r l => (lower_read c (Vm m c main_arg22) r l).trans (congrFun h22 _)))).trans ?_
  rfl
end

end Cert.KernelIdeal.Val

end
-- ==== Proof.Value.Algebraic.lean ====
/- The optimised kernel and the reference leave the same result, when the query, the concepts and the attention's weights are finite. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.Value.Ref
public import proofs.«01_k».proof.Proof.Value.Out

@[expose] public section

set_option maxRecDepth 16384

noncomputable section

namespace Cert.Proof

open Idealize.ShloMosaic Idealize.SL.Sem Cert.KernelIdeal.Val

attribute [local instance] Cert.Kernel.Gen.facts Cert.KernelIdeal.Gen.facts Cert.ReferenceIdeal.Gen.facts Cert.Pre_finite_inputs.Gen.facts

theorem cPosInf : Ideal.ofBits .f32 0x7F800000#32 = (⊤ : EReal) := by
  simp [Ideal.ofBits, Ideal.ieee, -EReal.coe_mul]

/-- An extended real whose absolute value lies below infinity is a real number. -/
theorem real_of_abs (a : EReal) (h : max a (-a) < ⊤) : ∃ r : ℝ, a = (r : EReal) := by
  induction a with
  | bot => simp at h
  | top => simp at h
  | coe r => exact ⟨r, rfl⟩

theorem real_of_test {s : Shape} (v : FVec Ideal s .f32) (b : Cert.Pre_finite_inputs.S_.BroadcastsInDim s (![] : Fin 0 → Fin s.rank))
    (h : cmpf .olt (Host.absf v) (broadcastInDim s ![] b (constant (F := Ideal) Cert.Pre_finite_inputs.S_ .f32 0x7F800000#32)) = (fun _ => 1#1)) : AllReal v := by
  intro i
  have e := congrFun h i
  apply real_of_abs
  rw [← cPosInf]
  by_contra hn
  have z : cmpf .olt (Host.absf v) (broadcastInDim s ![] b (constant (F := Ideal) Cert.Pre_finite_inputs.S_ .f32 0x7F800000#32)) i = BitVec.ofBool (decide (max (v i) (-v i) < Ideal.ofBits .f32 0x7F800000#32)) := rfl
  rw [z, decide_eq_false hn] at e
  exact absurd e (by decide)

theorem algebraic : Cert.algebraic_KernelIdeal_ReferenceIdeal_pre_finite_inputs := by
  intro m g m' g' hp ha
  refine ⟨fun c => Cert.KernelIdeal.Hand.outV c (Cert.KernelIdeal.Hand.Vm m c), ?_, ?_⟩
  · exact (θ_run Cert.KernelIdeal.defs _ _).mono (fun _ h c => ⟨Cert.KernelIdeal.Hand.final_out h.1 c, Cert.KernelIdeal.Hand.final_args h.1 c⟩) (Cert.KernelIdeal.Hand.run_main (F := Ideal) m g)
  · refine (θ_run Cert.ReferenceIdeal.defs _ _).mono (fun r h c => ⟨?_, (h c).2⟩) (Cert.ReferenceIdeal.Value.run (F := Ideal) m' g')
    obtain ⟨p0, p1, p2, p3, p4, p5, p6⟩ := hp c
    have e := out_all m c (real_of_test _ _ p0) (real_of_test _ _ p1) (real_of_test _ _ p2) (real_of_test _ _ p3) (real_of_test _ _ p4) (real_of_test _ _ p5) (real_of_test _ _ p6)
    refine ((h c).1.trans ?_).trans e.symm
    obtain ⟨a0, a1, a2, a3, a4, a5, a6, a7, a8, a9, a10, a11, a12, a13, a14, a15, a16, a17, a18, a19, a20, a21, a22, a23, a24, a25, a26, a27⟩ := ha c
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27]
    rfl

end Cert.Proof

end
-- ==== Proof.lean ====
/- The proof of the certificate's claims: the witnesses of the programs' stated facts, then one theorem for each claim. -/
module

public import proofs.«01_k».proof.Defs
public import proofs.«01_k».proof.Proof.Frames
public import proofs.«01_k».proof.Proof.Value.Algebraic
public import proofs.«01_k».proof.Proof.Gen.Pre_finite_inputs

@[expose] public section

noncomputable section

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernel_ideal, fun m g _ => frame_kernel_ideal m g trivial, frame_reference, fun m g _ => frame_reference m g trivial,
    preserves_kernel, algebraic⟩

end Cert.Proof

end
